-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![2048, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v64) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn {F : FTy → Type} [FloatOps F] (main_arg0 : FVec F S512x256 .f32) (main_arg1 : FVec F S256x8 .f32) (main_arg2 : IVec S512x2 32) (main_arg3 : FVec F S2x256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  main_v8
-- ==== Pre_finite_scores_ReferenceIdeal.lean ====
abbrev S2048x256 : Shape := ⟨2, ![2048, 256]⟩
abbrev S256x8 : Shape := ⟨2, ![256, 8]⟩
abbrev S2048x2 : Shape := ⟨2, ![2048, 2]⟩
abbrev S8x256x512 : Shape := ⟨3, ![8, 256, 512]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn {F : FTy → Type} [FloatOps F] (main_arg0 : FVec F S2048x256 .f32) (main_arg1 : FVec F S256x8 .f32) (main_arg2 : IVec S2048x2 32) (main_arg3 : FVec F S8x256x512 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  main_v8
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x512 : Shape := ⟨2, ![512, 512]⟩
abbrev S3x2x256x512 : Shape := ⟨4, ![3, 2, 256, 512]⟩
abbrev S6 : Shape := ⟨1, ![6]⟩
abbrev S_ : Shape := ⟨0, ![]⟩
abbrev S1 : Shape := ⟨1, ![1]⟩
abbrev S1x1x256x512 : Shape := ⟨4, ![1, 1, 256, 512]⟩
abbrev S256x512 : Shape := ⟨2, ![256, 512]⟩
abbrev S1x256x512 : Shape := ⟨3, ![1, 256, 512]⟩
abbrev S512x8 : Shape := ⟨2, ![512, 8]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x8, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S2x256x512, .bf16⟩
  | .local _ .vmem, ⟨6, _⟩ => ⟨S3x2x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_22 : BitVec 32 := 1#32
  let v21 : BitVec 32 := Scalar.muli v7 c1_i32_22
  let v22 : BitVec 32 := Scalar.addi c0_i32_23 v21
  v22.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v31 : BitVec 32 := Scalar.muli v5 c1_i32_33
  let v32 : BitVec 32 := Scalar.addi c0_i32_34 v31
  v32.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v41 : BitVec 32 := Scalar.muli v7 c1_i32_44
  let v42 : BitVec 32 := Scalar.addi c0_i32_45 v41
  v42.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_54 : BitVec 32 := 1#32
  let v51 : BitVec 32 := Scalar.muli v5 c1_i32_54
  let v52 : BitVec 32 := Scalar.addi c0_i32_55 v51
  v52.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v144 : BitVec 32 := Scalar.muli v7 c1_i32_113
  let v145 : BitVec 32 := Scalar.addi c0_i32_114 v144
  v145.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_135 : BitVec 32 := 1#32
  let v162 : BitVec 32 := Scalar.muli v5 c1_i32_135
  let v163 : BitVec 32 := Scalar.addi c0_i32_136 v162
  v163.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x2 : Shape := ⟨2, ![2048, 2]⟩
abbrev S8x256x512 : Shape := ⟨3, ![8, 256, 512]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S1x1 : Shape := ⟨2, ![1, 1]⟩
abbrev S2048x256x512 : Shape := ⟨3, ![2048, 256, 512]⟩
abbrev S2048x512 : Shape := ⟨2, ![2048, 512]⟩

abbrev nBuf : Space → Nat
  | .hbm => 83
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x8, .f32⟩
  | .hbm, ⟨2, _⟩ => ⟨S2048x2, .i32⟩
  | .hbm, ⟨3, _⟩ => ⟨S8x256x512, .f32⟩
  | .hbm, ⟨4, _⟩ => ⟨S2048x8, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x8, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x8, .f32⟩
  | .hbm, ⟨15, _⟩ => ⟨S2048x8, .f32⟩
  | .hbm, ⟨16, _⟩ => ⟨S2048x2x1, .i32⟩
  | .hbm, ⟨17, _⟩ => ⟨S1, .i32⟩
  | .hbm, ⟨18, _⟩ => ⟨S_, .i32⟩
  | .hbm, ⟨19, _⟩ => ⟨S2048x2x1, .i32⟩
  | .hbm, ⟨20, _⟩ => ⟨S2048x2x1, .i1⟩
  | .hbm, ⟨21, _⟩ => ⟨S1x1x1, .i32⟩
  | .hbm, ⟨22, _⟩ => ⟨S2048x2x1, .i32⟩
  | .hbm, ⟨23, _⟩ => ⟨S2048x2x1, .i1⟩
  | .hbm, ⟨24, _⟩ => ⟨S2048x2x1, .i1⟩
  | .hbm, ⟨25, _⟩ => ⟨S_, .i1⟩
  | .hbm, ⟨26, _⟩ => ⟨S2048x2, .i1⟩
  | .hbm, ⟨27, _⟩ => ⟨S2048x2, .f32⟩
  | .hbm, ⟨28, _⟩ => ⟨S_, .f32⟩
  | .hbm, ⟨29, _⟩ => ⟨S2048x2, .f32⟩
  | .hbm, ⟨30, _⟩ => ⟨S2048x2, .f32⟩
  | .hbm, ⟨31, _⟩ => ⟨S2048x1, .f32⟩
  | .hbm, ⟨32, _⟩ => ⟨S2048, .f32⟩
  | .hbm, ⟨33, _⟩ => ⟨S2048x1, .f32⟩
  | .hbm, ⟨34, _⟩ => ⟨S2048, .f32⟩
  | .hbm, ⟨35, _⟩ => ⟨S2048, .f32⟩
  | .hbm, ⟨36, _⟩ => ⟨S2048x1, .i32⟩
  | .hbm, ⟨37, _⟩ => ⟨S2048, .i32⟩
  | .hbm, ⟨38, _⟩ => ⟨S2048x1, .i32⟩
  | .hbm, ⟨39, _⟩ => ⟨S2048, .i32⟩
  | .hbm, ⟨40, _⟩ => ⟨S2048, .f32⟩
  | .hbm, ⟨41, _⟩ => ⟨S2048x1, .f32⟩
  | .hbm, ⟨42, _⟩ => ⟨S2048x1, .i32⟩
  | .hbm, ⟨43, _⟩ => ⟨S1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S1x1, .i32⟩
  | .hbm, ⟨48, _⟩ => ⟨S2048x1, .i32⟩
  | .hbm, ⟨49, _⟩ => ⟨S2048x1, .i1⟩
  | .hbm, ⟨50, _⟩ => ⟨S2048x1, .i1⟩
  | .hbm, ⟨51, _⟩ => ⟨S_, .i1⟩
  | .hbm, ⟨52, _⟩ => ⟨S2048, .i1⟩
  | .hbm, ⟨53, _⟩ => ⟨S2048x256x512, .f32⟩
  | .hbm, ⟨54, _⟩ => ⟨S2048x256x512, .i1⟩
  | .hbm, ⟨55, _⟩ => ⟨S_, .f32⟩
  | .hbm, ⟨56, _⟩ => ⟨S2048x256x512, .f32⟩
  | .hbm, ⟨57, _⟩ => ⟨S2048x256x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048, .f32⟩
  | .hbm, ⟨62, _⟩ => ⟨S2048x1, .f32⟩
  | .hbm, ⟨63, _⟩ => ⟨S2048x1, .i32⟩
  | .hbm, ⟨64, _⟩ => ⟨S1, .i32⟩
  | .hbm, ⟨65, _⟩ => ⟨S_, .i32⟩
  | .hbm, ⟨66, _⟩ => ⟨S2048x1, .i32⟩
  | .hbm, ⟨67, _⟩ => ⟨S2048x1, .i1⟩
  | .hbm, ⟨68, _⟩ => ⟨S1x1, .i32⟩
  | .hbm, ⟨69, _⟩ => ⟨S2048x1, .i32⟩
  | .hbm, ⟨70, _⟩ => ⟨S2048x1, .i1⟩
  | .hbm, ⟨71, _⟩ => ⟨S2048x1, .i1⟩
  | .hbm, ⟨72, _⟩ => ⟨S_, .i1⟩
  | .hbm, ⟨73, _⟩ => ⟨S2048, .i1⟩
  | .hbm, ⟨74, _⟩ => ⟨S2048x256x512, .f32⟩
  | .hbm, ⟨75, _⟩ => ⟨S2048x256x512, .i1⟩
  | .hbm, ⟨76, _⟩ => ⟨S_, .f32⟩
  | .hbm, ⟨77, _⟩ => ⟨S2048x256x512, .f32⟩
  | .hbm, ⟨78, _⟩ => ⟨S2048x256x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.KernelIdeal.Schedule.lean ====
/-
The exchange's protocol: who signals whom, what each transfer carries, and in which order.

Four devices stand in a ring. Every device first tells both neighbours that its landing slots are free
(one unit each on the neighbour's barrier counter) and waits for two such units. It then sends the two
matrices of its block of expert weights to both neighbours — four transfers — and forwards two of the four
matrices it receives to the neighbour beyond — two more. Transfer `i : Fin 6` has a send counter and a
receive counter of its own on every device, so every counter is used once.

The module states the cells, the contents each transfer carries and the rounds schedule over them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! ## The six transfers -/

/-- The transfers that go to the next device; the others go to the one before. -/
def fwd : Fin 6 → Bool := ![true, true, false, false, true, false]
/-- Which of the two matrices of a block transfer `i` carries. -/
abbrev half : Fin 6 → Fin 2 := ![0, 1, 1, 0, 0, 1]
/-- The device transfer `i` of device `c` goes to. -/
def tgt (i : Fin 6) (c : Dev nD) : Dev nD := if fwd i then nxt c else prv c
/-- The device whose transfer `i` comes to device `c`. -/
def src (i : Fin 6) (c : Dev nD) : Dev nD := if fwd i then prv c else nxt c
/-- The device whose block transfer `i` of device `c` carries a matrix of: its own in the first four, a
    neighbour's in the two forwarding ones. -/
def owner : Fin 6 → Dev nD → Dev nD :=
  ![fun c => c, fun c => c, fun c => c, fun c => c, prv, nxt]

theorem src_tgt (i : Fin 6) (c : Dev nD) : src i (tgt i c) = c := by revert i c; decide
theorem tgt_src (i : Fin 6) (c : Dev nD) : tgt i (src i c) = c := by revert i c; decide

/-- Transfer `i` as a permutation of the devices. -/
def around (i : Fin 6) : Dev nD ≃ Dev nD := ⟨tgt i, src i, src_tgt i, tgt_src i⟩

/-- The device each of the kernel's address computations names. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = tgt 0 c := Fin.ext (k0_dev3_eq c)
theorem dev4_eq (c : Dev nD) : (⟨k0_dev4 c, k0_dev4_lt c⟩ : Dev nD) = tgt 2 c := Fin.ext (k0_dev4_eq c)
theorem dev5_eq (c : Dev nD) : (⟨k0_dev5 c, k0_dev5_lt c⟩ : Dev nD) = tgt 1 c := Fin.ext (k0_dev5_eq c)
theorem dev6_eq (c : Dev nD) : (⟨k0_dev6 c, k0_dev6_lt c⟩ : Dev nD) = tgt 3 c := Fin.ext (k0_dev6_eq c)
theorem dev7_eq (c : Dev nD) : (⟨k0_dev7 c, k0_dev7_lt c⟩ : Dev nD) = tgt 4 c := Fin.ext (k0_dev7_eq c)
theorem dev8_eq (c : Dev nD) : (⟨k0_dev8 c, k0_dev8_lt c⟩ : Dev nD) = tgt 5 c := Fin.ext (k0_dev8_eq c)

/-! ## Memrefs and cells -/

/-- The block's two matrices at the transfers' precision, -/
abbrev ownW : Memref sig .tc .vmem S2x256x512 .bf16 := Memref.whole cc0_scratch0
/-- and the six landing slots, three rows of two. -/
abbrev slots : Memref sig .tc .vmem S3x2x256x512 .bf16 := Memref.whole cc0_scratch1

theorem ownR_inb (h : Fin 2) : ∀ a, (![h.val, 0, 0] : Fin 3 → Nat) a + S1x256x512.size a ≤ S2x256x512.size a := by
  revert h; decide
/-- Matrix `h` of the block, as a rectangle of its buffer, -/
abbrev ownR (h : Fin 2) : Rect S2x256x512 := Rect.unit (s := S2x256x512) ![h.val, 0, 0] S1x256x512.size (ownR_inb h)
/-- and as the memref a transfer reads. -/
abbrev ownM (h : Fin 2) : Memref sig .tc .vmem S256x512 .bf16 :=
  (ownW.slice (ownR h) (fun _ => rfl)).squeeze S256x512 squeezes_S1x256x512_S256x512

/-- The row of the landing slots transfer `i` fills; the column is the matrix it carries. -/
abbrev row : Fin 6 → Fin 3 := ![0, 0, 1, 1, 2, 2]
theorem slotR_inb (i : Fin 6) : ∀ a, (![(row i).val, (half i).val, 0, 0] : Fin 4 → Nat) a + S1x1x256x512.size a ≤ S3x2x256x512.size a := by
  revert i; decide
/-- Landing slot `i`, as a rectangle of the slots' buffer, -/
abbrev slotR (i : Fin 6) : Rect S3x2x256x512 := Rect.unit (s := S3x2x256x512) ![(row i).val, (half i).val, 0, 0] S1x1x256x512.size (slotR_inb i)
/-- and as the memref transfer `i` writes. -/
abbrev slotM (i : Fin 6) : Memref sig .tc .vmem S256x512 .bf16 :=
  (slots.slice (slotR i) (fun _ => rfl)).squeeze S256x512 squeezes_S1x1x256x512_S256x512

/-- What transfer `i` reads: a matrix of the block, or the slot it forwards; -/
abbrev fromM : Fin 6 → Memref sig .tc .vmem S256x512 .bf16 :=
  ![ownM 0, ownM 1, ownM 1, ownM 0, slotM 0, slotM 2]
/-- the share of it the transfer takes, a rest staying with the device for its loads. -/
abbrev fromQ : Fin 6 → PosShare TreeShare :=
  ![fullShare.left.left, fullShare.left.left, fullShare.left.right, fullShare.left.right, fullShare.left, fullShare.left]

/-- The barrier counter, -/
abbrev barS : Sem sig := (SemArray.scalar (sig.barrier 0 rfl) : Sems sig S_).sem
/-- and the send (`false`) and receive (`true`) counter of transfer `i`. -/
def dS : Bool × Fin 6 → DmaSem sig
  | (false, i) => ⟨5 + i.val, Nat.lt_trans (Nat.add_lt_add_left i.isLt 5) (by decide)⟩
  | (true, i) => ⟨11 + i.val, Nat.lt_of_lt_of_le (Nat.add_lt_add_left i.isLt 11) (by decide)⟩

/-- The counters a device uses. -/
abbrev CI : Type := Unit ⊕ (Bool × Fin 6)
abbrev osem : Bool × Fin 6 → SemLoc sig := fun k => .dma (dS k)
def csem : CI → SemLoc sig
  | .inl _ => .reg barS
  | .inr k => osem k

theorem csem_inj : Function.Injective csem := by decide

/-- The device's counter of that kind. -/
abbrev kcell (c : Dev nD) (k : CI) : GSem nD τ sig := ((c : Thread nD τ), csem k)
abbrev barCell (c : Dev nD) : GSem nD τ sig := ((c : Thread nD τ), .reg barS)
abbrev dCell (b : Bool) (i : Fin 6) (c : Dev nD) : GSem nD τ sig := ((c : Thread nD τ), .dma (dS (b, i)))

/-- The counter's kind, read back. -/
def kind (s : SemLoc sig) : Option CI := if h : ∃ k, csem k = s then some h.choose else none

theorem kind_csem (k : CI) : kind (csem k) = some k := by
  have h : ∃ k', csem k' = csem k := ⟨k, rfl⟩
  unfold kind; rw [dif_pos h]; exact congrArg some (csem_inj h.choose_spec)
theorem kind_bar : kind (.reg barS) = some (.inl ()) := kind_csem (.inl ())
theorem kind_dma (b : Bool) (i : Fin 6) : kind (.dma (dS (b, i))) = some (.inr (b, i)) := kind_csem (.inr (b, i))

/-- What a landing credits: the same for every slot. -/
abbrev N : ℕ := (slotM 0).view.dmaCredit
theorem N_pos : 0 < N := View.dmaCredit_pos _ (by decide)
theorem credit_eq (i : Fin 6) : (slotM i).view.dmaCredit = N := rfl

/-! ## Contents -/

/-- Device `c`'s block of expert weights, as staged; -/
def ewstg (c : Dev nD) : (cc0_stg3_0 : Ref sig .tc).ty.Contents (Elt F) :=
  (win0_3.blk (0 : Fin 1)).view.read (Elt F) ((s₀ m ρ).mem ((c : Thread nD τ).loc main_arg3))
/-- the same at the transfers' precision; -/
def wAll (c : Dev nD) : (cc0_scratch0 : Ref sig .tc).ty.Contents (Elt F) := k0_pay1 (ewstg m ρ c)
/-- its matrix `h`. -/
def wOf (c : Dev nD) (h : Fin 2) : S256x512.Idx → Elt F .bf16 := (ownM h).view.read (Elt F) (wAll m ρ c)

/-- What transfer `i` of device `c` takes and brings back when it has been read, -/
def sendPay (i : Fin 6) (c : Dev nD) : sProp 𝕄 := owns (c : Thread nD τ) (fromM i) (fromQ i) (wOf m ρ (owner i c) (half i))
/-- and what the transfer `i` arriving at `c` brings: the slot, holding the matrix. -/
def recvPay (i : Fin 6) (c : Dev nD) : sProp 𝕄 := owns (c : Thread nD τ) (slotM i) fullShare (wOf m ρ (owner i (src i c)) (half i))
/-- What a transfer's counter hands its owner. -/
def pay (k : Bool × Fin 6) (c : Dev nD) : sProp 𝕄 := if k.1 then recvPay m ρ k.2 c else sendPay m ρ k.2 c

/-- The slot transfer `i` of device `c` fills, free: its contents may be anything. -/
def free (i : Fin 6) (c : Dev nD) : sProp 𝕄 := iprop(∃ X, owns (tgt i c : Thread nD τ) (slotM i) fullShare X)
/-- What the signal of a neighbour hands device `c`: the three slots its transfers to that neighbour fill. The next
    device's signal is duty `true`, the one before's duty `false`. -/
def barPay (b : Bool) (c : Dev nD) : sProp 𝕄 :=
  if b then iprop(free 0 c ∗ free 1 c ∗ free 4 c) else iprop(free 2 c ∗ free 3 c ∗ free 5 c)

omit [FloatOps F] in
instance free_storable (i : Fin 6) (c : Dev nD) : BI.Storable (upEmb : UEmb _ 𝕄) (free (F := F) i c) := by
  unfold free; infer_instance
omit [FloatOps F] in
instance barPay_storable (b : Bool) (c : Dev nD) : BI.Storable (upEmb : UEmb _ 𝕄) (barPay (F := F) b c) := by
  unfold barPay; split <;> infer_instance
instance pay_storable (k : Bool × Fin 6) (c : Dev nD) : BI.Storable (upEmb : UEmb _ 𝕄) (pay (F := F) m ρ k c) := by
  unfold pay recvPay sendPay; split <;> infer_instance

/-! ## The schedule -/

/-- One round. The barrier counter has two duties of one unit each; the counter of a transfer one duty, of the
    landing's credit, handing over what `pay` says. -/
def rd : Rounds.Schedule (GSem nD τ sig) Bool 𝕄 where
  duties g r := if r = 0 ∧ g.1.2 = .tc then
      match kind g.2 with
      | some (.inl _) => Finset.univ
      | some (.inr _) => {false}
      | none => ∅
    else ∅
  unitless _ := False
  amount g _ _ := match kind g.2 with
    | some (.inl _) => 1
    | _ => N
  payload g _ d := match kind g.2 with
    | some (.inl _) => barPay d g.1.1
    | some (.inr k) => pay m ρ k g.1.1
    | none => iprop(emp)
  amount_pos g _ _ _ := by
    split
    · exact Nat.one_pos
    · exact N_pos

instance rd_payload_storable (g : GSem nD τ sig) (r : ℕ) (d : Bool) :
    BI.Storable (upEmb : UEmb _ 𝕄) ((rd (F := F) m ρ).payload g r d) := by
  dsimp only [rd]; split <;> infer_instance

section Sched
variable (c : Dev nD) (b : Bool) (i : Fin 6)

theorem duties_bar : (rd (F := F) m ρ).duties (barCell c) 0 = Finset.univ := by
  dsimp only [rd]; rw [if_pos ⟨rfl, rfl⟩, kind_bar]
theorem duties_dma : (rd (F := F) m ρ).duties (dCell b i c) 0 = {false} := by
  dsimp only [rd]; rw [if_pos ⟨rfl, rfl⟩, kind_dma]
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := by
  dsimp only [rd]; rw [kind_bar]
theorem amount_dma (d : Bool) : (rd (F := F) m ρ).amount (dCell b i c) 0 d = N := by
  dsimp only [rd]; rw [kind_dma]

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma : (rd (F := F) m ρ).expect (dCell b i c) 0 = N := by
  unfold Schedule.expect Schedule.amountOf; rw [duties_dma, Finset.sum_singleton, amount_dma]

theorem payload_bar (d : Bool) : (rd (F := F) m ρ).payload (barCell c) 0 d = barPay d c := by
  dsimp only [rd]; rw [kind_bar]
theorem payload_dma (d : Bool) : (rd (F := F) m ρ).payload (dCell b i c) 0 d = pay m ρ (b, i) c := by
  dsimp only [rd]; rw [kind_dma]

/-- What the barrier wait brings: both neighbours' slots. -/
theorem rest_bar : bigSep ((rd (F := F) m ρ).duties (barCell c) 0 \ ∅) (fun d => (rd (F := F) m ρ).payload (barCell c) 0 d)
    = iprop(barPay true c ∗ barPay false c) := by
  rw [Finset.sdiff_empty, duties_bar, bigSep_univ_eq_bigSepL [true, false] (by decide) (by decide), bigSepL_cons_cons, bigSepL_singleton,
    payload_bar, payload_bar]
  rfl
theorem rest_dma : bigSep ((rd (F := F) m ρ).duties (dCell b i c) 0 \ ∅) (fun d => (rd (F := F) m ρ).payload (dCell b i c) 0 d)
    = pay m ρ (b, i) c := by
  rw [Finset.sdiff_empty, duties_dma, bigSep_singleton, payload_dma]

end Sched

/-! ## What a device owes, and the levels of its waits -/

/-- The credits of the transfers `l` device `c` has still to start, the next first. -/
def owe (c : Dev nD) : List (Fin 6) → CellTallies nD τ sig Unit
  | [] => 0
  | i :: l => owe c l + tallyAt (dCell true i (tgt i c)) () N
/-- The transfers in the order the kernel starts them. -/
abbrev order : List (Fin 6) := [0, 2, 1, 3, 4, 5]
/-- After the first signal; -/
def O₁ (c : Dev nD) : CellTallies nD τ sig Unit := owe c order + tallyAt (barCell (nxt c)) () 1
/-- at launch. -/
def O₀ (c : Dev nD) : CellTallies nD τ sig Unit := O₁ c + tallyAt (barCell (prv c)) () 1

def L (g : GSem nD τ sig) : Finset Unit := if g.1.2 = .tc then {()} else ∅
/-- A transfer's level: the two forwarding ones lie above the others. -/
def tier (i : Fin 6) : ℕ := if i.val < 4 then 2 else 3
/-- Barrier counters at 1, receive counters at their transfer's level, everything else at 0. -/
def lv (g : GSem nD τ sig) (_ : Unit) : ℕ := match kind g.2 with
  | some (.inl _) => 1
  | some (.inr (true, i)) => tier i
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_recv (i : Fin 6) (c : Dev nD) : lv (dCell true i c) () = tier i := by unfold lv; rw [kind_dma]
theorem lv_send (i : Fin 6) (c : Dev nD) : lv (dCell false i c) () = 0 := by unfold lv; rw [kind_dma]
theorem tier_pos (i : Fin 6) : 1 < tier i := by revert i; decide

theorem owe_pos {c : Dev nD} {l : List (Fin 6)} {g : GSem nD τ sig} {u : Unit} (h : 0 < owe c l g u) :
    ∃ i ∈ l, g = dCell true i (tgt i c) := by
  induction l with
  | nil => exact absurd h (Nat.lt_irrefl 0)
  | cons i l ih =>
    unfold owe at h
    rw [Pi.add_apply, Finsupp.add_apply, tallyAt_apply] at h
    by_cases hg : g = dCell true i (tgt i c)
    · exact ⟨i, List.mem_cons_self, hg⟩
    · rw [if_neg (fun h' => hg h'.1), Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ i, g = dCell true i (tgt i c)) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (nxt c)
  · exact .inr (.inl h1)
  by_cases h2 : g = barCell (prv c)
  · exact .inr (.inr h2)
  rw [if_neg (fun h' => h1 h'.1), if_neg (fun h' => h2 h'.1)] at h
  obtain ⟨i, -, e⟩ := owe_pos (by omega)
  exact .inl ⟨i, e⟩

omit [FloatOps F] in
/-- A wait is allowed while transfers of higher levels are owed. -/
theorem mayWait_owe (c : Dev nD) (sm : SemLoc sig) (l : List (Fin 6)) (h : ∀ i ∈ l, lv ((c : Thread nD τ), sm) () < tier i) :
    (levAts L lv : sProp 𝕄) ⊢ MayWait (c : Thread nD τ) sm () (owe c l) :=
  MayOwe.of_cut (L := L) (lev := lv) (lv ((c : Thread nD τ), sm) ()) (fun p hp => by rw [Finset.mem_singleton.mp hp, L_tc]; exact Finset.mem_singleton_self _)
    (fun g u hg => by obtain ⟨i, -, rfl⟩ := owe_pos hg; rw [L_tc]; exact Finset.mem_singleton_self _)
    (fun p hp => by rw [Finset.mem_singleton.mp hp])
    (fun g u hg => by obtain ⟨i, hi, rfl⟩ := owe_pos hg; cases u; rw [lv_recv]; exact h i hi)

omit [FloatOps F] in
/-- The pipeline's waits on its staging copies are allowed at launch and at the end. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl | rfl <;> exact Finset.mem_singleton_self _)
      (fun p hp => by rw [Finset.mem_singleton.mp hp]; dsimp only [lv]; rw [hq])
      (fun g u hg => by
        cases u
        rcases O₀_pos hg with ⟨i, rfl⟩ | rfl | rfl
        · rw [lv_recv]; exact Nat.zero_lt_of_lt (tier_pos i)
        · rw [lv_bar]; exact Nat.one_pos
        · rw [lv_bar]; exact Nat.one_pos)
  · rw [MayWait_zero]; iintro -; iempintro

/-! ## The records every device reads, and what each device holds -/

/-- The counters' invariants under the names `K`, and that every counter has reached round 0. -/
def records (K : Dev nD × CI → ℕ) : sProp 𝕄 :=
  iprop((bigSep Finset.univ fun ck : Dev nD × CI => cellInv ER (rd m ρ) (K ck) (kcell ck.1 ck.2))
    ∗ bigSep Finset.univ fun ck : Dev nD × CI => reached ER (kcell ck.1 ck.2) 0)

instance records_persistent (K : Dev nD × CI → ℕ) : BI.Persistent (records m ρ K) := by unfold records; infer_instance

theorem inv_at (K : Dev nD × CI → ℕ) (c : Dev nD) (k : CI) : records m ρ K ⊢ cellInv ER (rd m ρ) (K (c, k)) (kcell c k) := by
  unfold records
  iintro ⟨H, -⟩
  iapply (show (bigSep Finset.univ fun ck : Dev nD × CI => (cellInv ER (rd m ρ) (K ck) (kcell ck.1 ck.2) : sProp 𝕄)) ⊢ cellInv ER (rd m ρ) (K (c, k)) (kcell c k) from
    bigSep_elim (Finset.mem_univ (c, k)))
  iexact H
theorem reached_at (K : Dev nD × CI → ℕ) (c : Dev nD) (k : CI) : records m ρ K ⊢ reached ER (kcell c k) 0 := by
  unfold records
  iintro ⟨-, H⟩
  iapply (show (bigSep Finset.univ fun ck : Dev nD × CI => (reached ER (kcell ck.1 ck.2) 0 : sProp 𝕄)) ⊢ reached ER (kcell c k) 0 from
    bigSep_elim (Finset.mem_univ (c, k)))
  iexact H

/-- The tokens of the duties device `c` pays: its two signals and its six transfers. -/
def payToks (c : Dev nD) : sProp 𝕄 :=
  iprop((dutyTok ER (barCell (prv c)) 0 true ∗ dutyTok ER (barCell (nxt c)) 0 false)
    ∗ bigSep Finset.univ fun i : Fin 6 => iprop(dutyTok ER (dCell false i c) 0 false ∗ dutyTok ER (dCell true i (tgt i c)) 0 false))
/-- What device `c` alone holds: its positions at its own counters, and those tokens. -/
def linear (c : Dev nD) : sProp 𝕄 :=
  iprop((bigSep Finset.univ fun k : CI => atPos ER (kcell c k) 0 ∅ 0) ∗ payToks c)
def ghost (K : Dev nD × CI → ℕ) (c : Dev nD) : sProp 𝕄 := iprop(records m ρ K ∗ linear c)

end Cert.KernelIdeal.Exchange

end
-- ==== Proof.KernelIdeal.Slots.lean ====
/-
The exchange's two buffers in parts: the block's two matrices, each at the shares its transfers and its
loads take, and the six landing slots. A buffer whole is its parts and back, and a load of a part through
the whole buffer reads the part's contents.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A memref and the memref squeezed -/

/-- A function on a shape, read at the positions of a shape of the same elements in row-major order. -/
def spread {s s' : Shape} {α : Type} (h : s.Squeezes s') (X : s'.Idx → α) : s.Idx → α :=
  fun y => X ((Shape.reshapeEquiv h.numel_eq).symm y)

omit [FloatOps F] in
/-- Owning a squeezed memref is owning the memref, at the same contents in row-major order. -/
theorem owns_squeezed (c : Dev nD) {s s' : Shape} {e : EltTy} (M : Memref sig .tc .vmem s e) (h : s.Squeezes s') (q : PosShare TreeShare)
    (X : s'.Idx → Elt F e) :
    (owns (c : Thread nD τ) (M.squeeze s' h) q X : sProp 𝕄) = owns (c : Thread nD τ) M q (spread h X) := by
  have hset : (M.squeeze s' h).view.set = M.view.set := View.set_reshape (v := M.view) h.numel_eq
  have hread (f : M.view.ty.Contents (Elt F)) : (M.squeeze s' h).view.read (Elt F) f = X ↔ M.view.read (Elt F) f = spread h X := by
    constructor
    · intro e; subst e
      funext y
      show _ = M.view.read (Elt F) f (Shape.reshapeEquiv h.numel_eq ((Shape.reshapeEquiv h.numel_eq).symm y))
      rw [Equiv.apply_symm_apply]
    · intro e
      funext x
      show M.view.read (Elt F) f (Shape.reshapeEquiv h.numel_eq x) = X x
      rw [e]; unfold spread; rw [Equiv.symm_apply_apply]
  unfold owns
  simp only [hset, hread]

/-- A load of a rectangle of a buffer, the rectangle's squeezed memref owned at any share: it reads the contents. -/
theorem wp_load_part (c : Dev nD) {s s' : Shape} {e : EltTy} {M : Memref sig .tc .vmem s e} {r : Rect s} {hr : ∀ a, r.stride a = 1}
    {h : r.shape.Squeezes s'} {q : PosShare TreeShare} {X : s'.Idx → Elt F e} {hl : M.view.LoadsAt r.toLoadRect}
    {α : Type} {Q : α → sProp 𝕄} {k : (r.shape.Idx → Elt F e) → Prog (TpuEff nD τ sig (Elt F) Λ₀ .tc) α} :
    (owns (c : Thread nD τ) ((M.slice r hr).squeeze s' h) q X)
      ⊢ iprop(((owns (c : Thread nD τ) ((M.slice r hr).squeeze s' h) q X)
            -∗ wp frame (wpE (defs₀ (F := F)) 𝒱₀ (c : Thread nD τ) none) Set.univ (k (spread h X)) Q)
          -∗ wp frame (wpE (defs₀ (F := F)) 𝒱₀ (c : Thread nD τ) none) Set.univ (.op (.load M r.toLoadRect hl) k) Q) := by
  rw [owns_squeezed c (M.slice r hr) h q X]
  unfold owns
  iintro ⟨%f, %hf, H⟩ Hk
  rw [← hf]
  iapply (wp_load_rect 𝒱₀ (c : Thread nD τ) none Set.univ (m := M) (r := r) (S := (M.slice r hr).view.set) subset_rfl) $$ H
  iintro H
  iapply Hk
  iexists f
  isplitr; · ipureintro; rfl
  iexact H

/-! ## The block's matrices -/

theorem ownR_disjoint (h h' : Fin 2) (hne : h ≠ h') : Disjoint (ownR h).set (ownR h').set := by
  rw [Finset.disjoint_left]
  intro x hx hx'
  have a := Rect.mem_set_unit.mp hx 0
  have b := Rect.mem_set_unit.mp hx' 0
  have : h.val = h'.val := by
    simp only [Matrix.cons_val_zero] at a b
    have e : S1x256x512.size 0 = 1 := rfl
    omega
  exact hne (Fin.ext this)

theorem ownR_cover : (Finset.univ : Finset (Fin 2)).biUnion (fun h => (ownR h).set) = Finset.univ := by
  refine Finset.eq_univ_of_forall fun x => Finset.mem_biUnion.mpr ⟨x 0, Finset.mem_univ _, Rect.mem_set_unit.mpr fun a => ?_⟩
  have hb := (x a).isLt
  fin_cases a
  · exact ⟨le_rfl, Nat.lt_succ_self _⟩
  · exact ⟨Nat.zero_le _, by simpa using hb⟩
  · exact ⟨Nat.zero_le _, by simpa using hb⟩

omit [FloatOps F] in
/-- The block's buffer whole is its two matrices. -/
theorem own_parts (c : Dev nD) (q : PosShare TreeShare) (W : (cc0_scratch0 : Ref sig .tc).ty.Contents (Elt F)) :
    (((c : Thread nD τ).loc cc0_scratch0 ↦{q} W : sProp 𝕄))
      = iprop(owns (c : Thread nD τ) (ownM 0) q ((ownM 0).view.read (Elt F) W) ∗ owns (c : Thread nD τ) (ownM 1) q ((ownM 1).view.read (Elt F) W)) := by
  have e := pointsTo_rects (Ix := Unit) (Name := ℕ) (U := UU) (Lvl := ℕ) (Val := Elt F) (c : Thread nD τ) ownW q ownR (fun _ _ => rfl) ownR_disjoint ownR_cover W
  have hs : ∀ h : Fin 2, (owns (c : Thread nD τ) (ownW.slice (ownR h) (fun _ => rfl)) q (fun j => ownW.view.read (Elt F) W ((ownR h).emb j)) : sProp 𝕄)
      = owns (c : Thread nD τ) (ownM h) q ((ownM h).view.read (Elt F) W) := fun h => by
    rw [owns_squeezed c (ownW.slice (ownR h) (fun _ => rfl)) squeezes_S1x256x512_S256x512]
    congr 1
    funext y
    show _ = ownW.view.read (Elt F) W ((ownR h).emb (Shape.reshapeEquiv squeezes_S1x256x512_S256x512.numel_eq
      ((Shape.reshapeEquiv squeezes_S1x256x512_S256x512.numel_eq).symm y)))
    rw [Equiv.apply_symm_apply]
  rw [bigSep_univ_eq_bigSepL [0, 1] (by decide) (by decide), bigSepL_cons_cons, bigSepL_singleton, hs, hs] at e
  rw [View.set_whole] at e
  exact e

/-- A matrix of the block at the three shares it is held at: one for each of its two transfers, one for the loads. -/
def thirds (c : Dev nD) (h : Fin 2) (X : S256x512.Idx → Elt F .bf16) : sProp 𝕄 :=
  iprop((owns (c : Thread nD τ) (ownM h) fullShare.left.left X ∗ owns (c : Thread nD τ) (ownM h) fullShare.left.right X)
    ∗ owns (c : Thread nD τ) (ownM h) fullShare.right X)

omit [FloatOps F] in
theorem thirds_iff (c : Dev nD) (h : Fin 2) (X : S256x512.Idx → Elt F .bf16) :
    (owns (c : Thread nD τ) (ownM h) fullShare X : sProp 𝕄) ⊣⊢ thirds c h X := by
  unfold thirds
  constructor
  · iintro H
    ihave H := (owns_halves (c : Thread nD τ) (ownM h) fullShare X).1 $$ H
    icases H with ⟨Hl, Hr⟩
    isplitl [Hl]
    · iapply (owns_halves (c : Thread nD τ) (ownM h) fullShare.left X).1; iexact Hl
    · iexact Hr
  · iintro ⟨Hl, Hr⟩
    iapply (owns_halves (c : Thread nD τ) (ownM h) fullShare X).2
    isplitl [Hl]
    · iapply (owns_halves (c : Thread nD τ) (ownM h) fullShare.left X).2; iexact Hl
    · iexact Hr

/-- The block's buffer, written, is both matrices at their three shares, -/
theorem own_split (c : Dev nD) :
    (((c : Thread nD τ).loc cc0_scratch0 ↦{fullShare} wAll m ρ c : sProp 𝕄)) ⊢ iprop(thirds c 0 (wOf m ρ c 0) ∗ thirds c 1 (wOf m ρ c 1)) := by
  rw [own_parts]
  iintro ⟨H0, H1⟩
  isplitl [H0]
  · iapply (thirds_iff c 0 (wOf m ρ c 0)).1; iexact H0
  · iapply (thirds_iff c 1 (wOf m ρ c 1)).1; iexact H1

/-- and back. -/
theorem own_join (c : Dev nD) :
    iprop(thirds c 0 (wOf m ρ c 0) ∗ thirds c 1 (wOf m ρ c 1)) ⊢ (((c : Thread nD τ).loc cc0_scratch0 ↦{fullShare} wAll m ρ c : sProp 𝕄)) := by
  rw [own_parts]
  iintro ⟨H0, H1⟩
  isplitl [H0]
  · iapply (thirds_iff c 0 (wOf m ρ c 0)).2; iexact H0
  · iapply (thirds_iff c 1 (wOf m ρ c 1)).2; iexact H1

/-! ## The landing slots -/

theorem slot_index (a : Fin 3) (b : Fin 2) : ∃ i : Fin 6, row i = a ∧ half i = b := by revert a b; decide
theorem slot_index_inj (i j : Fin 6) (hr : (row i).val = (row j).val) (hh : (half i).val = (half j).val) : i = j := by
  revert i j; decide

theorem slotR_disjoint (i j : Fin 6) (hne : i ≠ j) : Disjoint (slotR i).set (slotR j).set := by
  rw [Finset.disjoint_left]
  intro x hx hx'
  have a0 := Rect.mem_set_unit.mp hx 0
  have b0 := Rect.mem_set_unit.mp hx' 0
  have a1 := Rect.mem_set_unit.mp hx 1
  have b1 := Rect.mem_set_unit.mp hx' 1
  have e0 : S1x1x256x512.size 0 = 1 := rfl
  have e1 : S1x1x256x512.size 1 = 1 := rfl
  refine hne (slot_index_inj i j ?_ ?_)
  · simp only [Matrix.cons_val_zero] at a0 b0
    omega
  · simp only [Matrix.cons_val_one, Matrix.cons_val_zero] at a1 b1
    omega

theorem slotR_cover : (Finset.univ : Finset (Fin 6)).biUnion (fun i => (slotR i).set) = Finset.univ := by
  refine Finset.eq_univ_of_forall fun x => ?_
  obtain ⟨i, hr, hh⟩ := slot_index (x 0) (x 1)
  refine Finset.mem_biUnion.mpr ⟨i, Finset.mem_univ _, Rect.mem_set_unit.mpr fun a => ?_⟩
  have hb := (x a).isLt
  fin_cases a
  · show (row i).val ≤ (x 0).val ∧ (x 0).val < (row i).val + 1
    rw [hr]; exact ⟨le_rfl, Nat.lt_succ_self _⟩
  · show (half i).val ≤ (x 1).val ∧ (x 1).val < (half i).val + 1
    rw [hh]; exact ⟨le_rfl, Nat.lt_succ_self _⟩
  · exact ⟨Nat.zero_le _, by simpa using hb⟩
  · exact ⟨Nat.zero_le _, by simpa using hb⟩

omit [FloatOps F] in
/-- The slots' buffer at any contents is the six slots at any contents. -/
theorem slots_parts (c : Dev nD) :
    iprop(∃ f : Buf (Elt F) ((c : Thread nD τ).loc cc0_scratch1), (c : Thread nD τ).loc cc0_scratch1 ↦{fullShare} f)
      ⊢ (bigSep Finset.univ fun i : Fin 6 => iprop(∃ X, owns (c : Thread nD τ) (slotM i) fullShare X) : sProp 𝕄) := by
  iintro ⟨%f, H⟩
  have e := pointsTo_rects (Ix := Unit) (Name := ℕ) (U := UU) (Lvl := ℕ) (Val := Elt F) (c : Thread nD τ) slots fullShare slotR (fun _ _ => rfl) slotR_disjoint slotR_cover f
  rw [View.set_whole] at e
  iapply (show (bigSep Finset.univ fun i : Fin 6 => (owns (c : Thread nD τ) (slots.slice (slotR i) (fun _ => rfl)) fullShare (fun j => slots.view.read (Elt F) f ((slotR i).emb j)) : sProp 𝕄))
      ⊢ (bigSep Finset.univ fun i : Fin 6 => iprop(∃ X, owns (c : Thread nD τ) (slotM i) fullShare X) : sProp 𝕄) from
    bigSep_mono fun i _ => by
      show (_ : sProp 𝕄) ⊢ _
      iintro H
      iexists (fun x => slots.view.read (Elt F) f ((slotR i).emb (Shape.reshapeEquiv squeezes_S1x1x256x512_S256x512.numel_eq x)))
      rw [owns_squeezed c (slots.slice (slotR i) (fun _ => rfl)) squeezes_S1x1x256x512_S256x512]
      unfold spread
      simp only [Equiv.apply_symm_apply]
      iexact H)
  rw [← e]
  iexact H

omit [FloatOps F] in
/-- and back. -/
theorem slots_whole [∀ e, Nonempty (Elt F e)] (c : Dev nD) :
    (bigSep Finset.univ fun i : Fin 6 => iprop(∃ X, owns (c : Thread nD τ) (slotM i) fullShare X) : sProp 𝕄)
      ⊢ iprop(∃ f : Buf (Elt F) ((c : Thread nD τ).loc cc0_scratch1), (c : Thread nD τ).loc cc0_scratch1 ↦{fullShare} f) := by
  refine (show _ ⊢ (bigSep Finset.univ fun i : Fin 6 => ownsSat (c : Thread nD τ) (slots.slice (slotR i) (fun _ => rfl)) fullShare (fun _ => True) : sProp 𝕄) from
    bigSep_mono fun i _ => by
      show (_ : sProp 𝕄) ⊢ _
      iintro ⟨%X, H⟩
      iapply (ownsSat_intro (c : Thread nD τ) (slots.slice (slotR i) (fun _ => rfl)) fullShare (X := spread squeezes_S1x1x256x512_S256x512 X) trivial)
      rw [← owns_squeezed c (slots.slice (slotR i) (fun _ => rfl)) squeezes_S1x1x256x512_S256x512]
      iexact H).trans ?_
  refine (ownsSat_of_rects (c : Thread nD τ) slots fullShare slotR (fun _ _ => rfl) slotR_disjoint slotR_cover (fun _ _ => True)).trans ?_
  unfold ownsSat
  iintro ⟨%f, -, H⟩
  iexists f
  rw [View.set_whole]
  iexact H

/-- The six slots of a device, free, are what its two signals hand over. -/
theorem slots_split (c : Dev nD) :
    iprop(∃ f : Buf (Elt F) ((c : Thread nD τ).loc cc0_scratch1), (c : Thread nD τ).loc cc0_scratch1 ↦{fullShare} f)
      ⊢ (iprop(barPay true (prv c) ∗ barPay false (nxt c)) : sProp 𝕄) := by
  refine (slots_parts c).trans ?_
  rw [show (bigSep Finset.univ fun i : Fin 6 => iprop(∃ X, owns (c : Thread nD τ) (slotM i) fullShare X) : sProp 𝕄)
      = bigSep Finset.univ fun i : Fin 6 => free i (src i c) from bigSep_congr fun i _ => by unfold free; rw [tgt_src],
    bigSep_univ_eq_bigSepL [0, 1, 4, 2, 3, 5] (by decide) (by decide)]
  simp only [bigSepL_cons_cons, bigSepL_singleton]
  show iprop(free 0 (src 0 c) ∗ free 1 (src 1 c) ∗ free 4 (src 4 c) ∗ free 2 (src 2 c) ∗ free 3 (src 3 c) ∗ free 5 (src 5 c)) ⊢ _
  unfold barPay
  rw [if_pos rfl, if_neg Bool.false_ne_true]
  iintro ⟨H0, H1, H4, H2, H3, H5⟩
  isplitl [H0 H1 H4]
  · isplitl [H0]; · iexact H0
    isplitl [H1]; · iexact H1
    iexact H4
  · isplitl [H2]; · iexact H2
    isplitl [H3]; · iexact H3
    iexact H5

end Cert.KernelIdeal.Exchange

end
-- ==== Proof.KernelIdeal.Transfer.lean ====
/-
One start and one wait of the exchange's transfers, each stated once for all six: a start spends a share of
the matrix it reads, the slot it fills and the two duty tokens; a wait returns what the transfer's counter
pays, and the counter itself at zero.
-/
module

public import proofs.«01_k».proof.Proof.KernelIdeal.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device owes, whatever waits it has recorded. -/
def owesE (c : Dev nD) (O : CellTallies nD τ sig Unit) : sProp 𝕄 := iprop(∃ W, owes (c : Thread nD τ) O W)

/-- The tokens of transfer `i` of device `c`: its own send counter's and the receiver's. -/
def toks2 (i : Fin 6) (c : Dev nD) : sProp 𝕄 := iprop(dutyTok ER (dCell false i c) 0 false ∗ dutyTok ER (dCell true i (tgt i c)) 0 false)

/-- Starting transfer `i`, its memrefs any two that hold what its counters pay. -/
theorem wp_start_of (K : Dev nD × CI → ℕ) (c : Dev nD) (i : Fin 6) (l : List (Fin 6)) (n : Dev nD) (hn : n = tgt i c)
    (M M' : Memref sig .tc .vmem S256x512 .bf16) (q : PosShare TreeShare) (X : S256x512.Idx → Elt F .bf16)
    (hs : sendPay m ρ i c = owns (c : Thread nD τ) M q X) (hd : recvPay m ρ i (tgt i c) = owns (tgt i c : Thread nD τ) M' fullShare X)
    (hcr : M'.view.dmaCredit = N)
    {a b : DmaSem sig} (ha : a = dS (false, i)) (hb : b = dS (true, i))
    {hsc : (M' : Memref sig (Dev.tc n : Thread nD τ).2.kind .vmem S256x512 .bf16).view.ref.isScScratch = false}
    {hsrc : M.view.WordExact} {hdst : M'.view.WordExact}
    {hsem : DmaTarget.Typed .vmem (.dma b) (.remote (Dev.tc n : Thread nD τ) M' (.dma a) hsc)}
    {α : Type} {Q : α → sProp 𝕄} {k : PUnit → Prog (TpuEff nD τ sig (Elt F) Λ₀ .tc) α} :
    iprop(records m ρ K ∗ owns (c : Thread nD τ) M q X ∗ (∃ Y, owns (tgt i c : Thread nD τ) M' fullShare Y) ∗ owesE c (owe c (i :: l)) ∗ toks2 i c)
      ⊢ iprop(((cred (tallyAt (dCell false i c) () N) ∗ owesE c (owe c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M' (.dma a) hsc) (.dma b) hsrc hdst hsem) k) Q) := by
  subst hn ha hb
  unfold owns owesE toks2
  iintro ⟨#HR, ⟨%fs, %hfs, Hs⟩, ⟨%Y, %fd, %hfd, Hd⟩, ⟨%W, HO⟩, Ht1, Ht2⟩ Hk
  iapply (Rounds.wp_send_pointsTo 𝒱₀ ER (rd m ρ) (c : Thread nD τ) none (κ₁ := K (c, .inr (false, i))) (κ₂ := K (tgt i c, .inr (true, i)))
    (r₁ := 0) (r₂ := 0) (d₁ := false) (d₂ := false) (fs := fs) (fd := fd) (q := q)
    (by rw [duties_dma]; exact Finset.mem_singleton_self _) (by rw [duties_dma]; exact Finset.mem_singleton_self _)
    () () N (show M'.view.amount (.dma (dS (true, i))) = N from hcr) (amount_dma m ρ c false i false) (amount_dma m ρ (tgt i c) true i false) (owe c l) rfl (W := W)
    (by
      rw [payload_dma]
      show _ ⊢ sendPay m ρ i c
      rw [hs, ← hfs]
      exact owns_intro _ _ _ _)
    (by
      rw [payload_dma]
      show _ ⊢ recvPay m ρ i (tgt i c)
      rw [hd, ← hfs]
      unfold owns
      iintro H
      iexists _
      isplitr
      rotate_left
      · iexact H
      ipureintro
      exact View.read_write_univ _ _)) $$ [Hs Hd HO Ht1 Ht2]
  · isplitr; · iapply (inv_at m ρ K c (.inr (false, i))); iexact HR
    isplitr; · iapply (inv_at m ρ K (tgt i c) (.inr (true, i))); iexact HR
    isplitl [Hs]; · iexact Hs
    isplitl [Hd]; · iexact Hd
    isplitl [HO]; · iexact HO
    isplitl [Ht1]; · iexact Ht1
    isplitr; · iapply (reached_at m ρ K c (.inr (false, i))); iexact HR
    isplitl [Ht2]; · iexact Ht2
    iapply (reached_at m ρ K (tgt i c) (.inr (true, i))); iexact HR
  iintro ⟨Hc, HO⟩
  iapply Hk
  isplitl [Hc]; · iexact Hc
  iexists W; iexact HO

/-- Starting transfer `i`. -/
theorem wp_start (K : Dev nD × CI → ℕ) (c : Dev nD) (i : Fin 6) (l : List (Fin 6)) (n : Dev nD) (hn : n = tgt i c)
    {M M' : Memref sig .tc .vmem S256x512 .bf16} (hM : M = fromM i) (hM' : M' = slotM i)
    {a b : DmaSem sig} (ha : a = dS (false, i)) (hb : b = dS (true, i))
    {hsc : (M' : Memref sig (Dev.tc n : Thread nD τ).2.kind .vmem S256x512 .bf16).view.ref.isScScratch = false}
    {hsrc : M.view.WordExact} {hdst : M'.view.WordExact}
    {hsem : DmaTarget.Typed .vmem (.dma b) (.remote (Dev.tc n : Thread nD τ) M' (.dma a) hsc)}
    {α : Type} {Q : α → sProp 𝕄} {k : PUnit → Prog (TpuEff nD τ sig (Elt F) Λ₀ .tc) α} :
    iprop(records m ρ K ∗ sendPay m ρ i c ∗ free i c ∗ owesE c (owe c (i :: l)) ∗ toks2 i c)
      ⊢ iprop(((cred (tallyAt (dCell false i c) () N) ∗ owesE c (owe c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M' (.dma a) hsc) (.dma b) hsrc hdst hsem) k) Q) := by
  have hs : sendPay m ρ i c = owns (c : Thread nD τ) M (fromQ i) (wOf m ρ (owner i c) (half i)) := by unfold sendPay; rw [hM]
  have hd : recvPay m ρ i (tgt i c) = owns (tgt i c : Thread nD τ) M' fullShare (wOf m ρ (owner i c) (half i)) := by
    unfold recvPay; rw [src_tgt, hM']
  have hcr : M'.view.dmaCredit = N := by rw [hM']
  have hf : (free i c : sProp 𝕄) = iprop(∃ Y, owns (tgt i c : Thread nD τ) M' fullShare Y) := by unfold free; rw [hM']
  rw [hs, hf]
  exact wp_start_of m ρ K c i l n hn M M' (fromQ i) _ hs hd hcr ha hb

/-- A wait on a counter of transfer `i`, owing the transfers `l`. -/
theorem wp_take (K : Dev nD × CI → ℕ) (c : Dev nD) (b : Bool) (i : Fin 6) (l : List (Fin 6)) (h : ∀ j ∈ l, (if b then tier i else 0) < tier j)
    {sm : DmaSem sig} (hsm : sm = dS (b, i)) {sp sp' : Space} {s s' : Shape} {e e' : EltTy}
    {M : Memref sig .tc sp' s' e'} {κ' : Kind} {M' : Memref sig κ' sp s e} (hcr : M'.view.dmaCredit = N) {hsrc : M.view.WordExact} {hdst : M'.view.WordExact}
    {α : Type} {Q : α → sProp 𝕄} {k : PUnit → Prog (TpuEff nD τ sig (Elt F) Λ₀ .tc) α} :
    iprop(records m ρ K ∗ levAts L lv ∗ cred (tallyAt (dCell b i c) () N) ∗ owesE c (owe c l) ∗ atPos ER (dCell b i c) 0 ∅ 0)
      ⊢ iprop(((owesE c (owe c l) ∗ semVal (dCell b i c) 0 ∗ pay m ρ (b, i) c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm M M' hsrc hdst) k) Q) := by
  subst hsm
  unfold owesE
  iintro ⟨#HR, #Hlev, Hc, ⟨%W, HO⟩, Hat⟩ Hk
  iapply (Rounds.wp_wait_rest_token 𝒱₀ ER (rd m ρ) (c : Thread nD τ) none (κ := K (c, .inr (b, i)))
      (wpE_waitDma2_eq 𝒱₀ (c : Thread nD τ) none Set.univ) (Set.mem_univ _) () (O := owe c l) (W := W) (R := 0) (m := 0) (T := ∅)
      (by rw [Nat.zero_add, expect_dma, hcr])) $$ [Hc HO Hat]
  · isplitr; · iapply (inv_at m ρ K c (.inr (b, i))); iexact HR
    isplitl [Hc]; · rw [hcr]; iexact Hc
    isplitl [HO]; · iexact HO
    isplitr
    · iapply (mayWait_owe c (.dma (dS (b, i))) l (fun j hj => by
        have := h j hj
        cases b
        · rw [lv_send]; exact this
        · rw [lv_recv]; exact this)); iexact Hlev
    iexact Hat
  iintro ⟨HO, Hat, -, Hpay⟩
  ihave Hp := (Entails.of_eq (rest_dma m ρ c b i)) $$ Hpay
  imod (Rounds.cell_close ER (rd m ρ) (Set.mem_univ (K (c, .inr (b, i)))) (fun h => h) (R := 0 + 1) (duties_later m ρ (dCell b i c))) $$ [Hat] with Hz
  · isplitr; · iapply (inv_at m ρ K c (.inr (b, i))); iexact HR
    iexact Hat
  iapply Hk
  isplitl [HO]; · iexists _; iexact HO
  isplitl [Hz]; · iexact Hz
  iexact Hp

/-- A signal of device `c` to a neighbour's barrier counter, with the slots that neighbour's transfers fill. -/
theorem wp_tell (K : Dev nD × CI → ℕ) (c n n' : Dev nD) (hn : n' = n) (d : Bool) (O : CellTallies nD τ sig Unit)
    {sm : Sem sig} (hsm : sm = barS) {w : ℕ} (hw : w = 1) (hr : τ.routes (c : Thread nD τ) (Dev.tc n' : Thread nD τ) = true)
    {α : Type} {Q : α → sProp 𝕄} {k : PUnit → Prog (TpuEff nD τ sig (Elt F) Λ₀ .tc) α} :
    iprop(records m ρ K ∗ owesE c (O + tallyAt (barCell n) () 1) ∗ dutyTok ER (barCell n) 0 d ∗ barPay d n)
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n' : Thread nD τ) sm w) k) Q) := by
  subst hn hsm hw
  unfold owesE
  iintro ⟨#HR, ⟨%W, HO⟩, Ht, Hp⟩ Hk
  iapply (Rounds.wp_signal 𝒱₀ ER (rd m ρ) (c : Thread nD τ) none (dst := (n' : Thread nD τ)) (κ := K (n', .inl ()))
      (d := d) (by rw [duties_bar]; exact Finset.mem_univ _) (amount_bar m ρ n' d) () O rfl (W := W) (hr := hr)) $$ [HO Ht Hp]
  · isplitr; · iapply (inv_at m ρ K n' (.inl ())); iexact HR
    isplitl [HO]; · iexact HO
    isplitl [Ht]; · iexact Ht
    isplitl [Hp]; · rw [payload_bar]; iexact Hp
    iapply (reached_at m ρ K n' (.inl ())); iexact HR
  iintro HO
  iapply Hk
  iexists W; iexact HO

/-- The wait for both neighbours. -/
theorem wp_meet (K : Dev nD × CI → ℕ) (c : Dev nD) {sm : Sem sig} (hsm : sm = barS) {w : ℕ} (hw : w = 2)
    {α : Type} {Q : α → sProp 𝕄} {k : PUnit → Prog (TpuEff nD τ sig (Elt F) Λ₀ .tc) α} :
    iprop(records m ρ K ∗ levAts L lv ∗ cred (tallyAt (barCell c) () 2) ∗ owesE c (owe c order) ∗ atPos ER (barCell c) 0 ∅ 0)
      ⊢ iprop(((owesE c (owe c order) ∗ semVal (barCell c) 0 ∗ barPay true c ∗ barPay false c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm w) k) Q) := by
  subst hsm hw
  unfold owesE
  iintro ⟨#HR, #Hlev, Hc, ⟨%W, HO⟩, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := owe c order) (W := W) (R := 0) (m := 0) (T := ∅)
      (by rw [Nat.zero_add, expect_bar])) $$ [Hc HO Hat]
  · isplitr; · iapply (inv_at m ρ K c (.inl ())); iexact HR
    isplitl [Hc]; · iexact Hc
    isplitl [HO]; · iexact HO
    isplitr
    · iapply (mayWait_owe c (.reg barS) order (fun j _ => by rw [lv_bar]; exact tier_pos j)); iexact Hlev
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (inv_at m ρ K c (.inl ())); iexact HR
    iexact Hat
  iapply Hk
  isplitl [HO]; · iexists _; iexact HO
  isplitl [Hz]; · iexact Hz
  iexact Hp

end Cert.KernelIdeal.Exchange

end
-- ==== Proof.KernelIdeal.Data.lean ====
/-
What the kernel leaves on a device, and the pipeline's proof data: the staged blocks, the eight partial
results in the order the kernel adds them, and what a device holds before and after the kernel.
-/
module

public import proofs.«01_k».proof.Proof.KernelIdeal.Transfer

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks -/

/-- The device's tokens, -/
def xstg (c : Dev nD) : (cc0_stg0_0 : Ref sig .tc).ty.Contents (Elt F) :=
  (win0_0.blk (0 : Fin 1)).view.read (Elt F) ((s₀ m ρ).mem ((c : Thread nD τ).loc main_arg0))
/-- the router's weights, -/
def rwstg (c : Dev nD) : (cc0_stg1_0 : Ref sig .tc).ty.Contents (Elt F) :=
  (win0_1.blk (0 : Fin 1)).view.read (Elt F) ((s₀ m ρ).mem ((c : Thread nD τ).loc main_arg1))
/-- and the tokens' routes, -/
def ixstg (c : Dev nD) : (cc0_stg2_0 : Ref sig .tc).ty.Contents (Elt F) :=
  (win0_2.blk (0 : Fin 1)).view.read (Elt F) ((s₀ m ρ).mem ((c : Thread nD τ).loc main_arg2))
/-- of which the first choices -/
def col0 (c : Dev nD) : Vec F S512x1 .i32 :=
  (Memref.whole cc0_stg2_0).view.readAt (Elt F) (Rect.unit (s := S512x2) ![0, 0] S512x1.size inb_S512x2_S512x1_0_0).toLoadRect (ixstg m ρ c)
/-- and the second choices. -/
def col1 (c : Dev nD) : Vec F S512x1 .i32 :=
  (Memref.whole cc0_stg2_0).view.readAt (Elt F) (Rect.unit (s := S512x2) ![0, 1] S512x1.size inb_S512x2_S512x1_0_1).toLoadRect (ixstg m ρ c)

/-! ## The words the kernel computes of the device's number -/

/-- The device's own number, -/
def w2 (c : Dev nD) : BitVec 32 := Scalar.remsi (Scalar.divsi (Dev.word c) 1#32) 4#32
/-- that of the device before, -/
def w5 (c : Dev nD) : BitVec 32 := Scalar.remsi (Scalar.subi (Scalar.addi (w2 c) 4#32) 1#32) 4#32
/-- of the device after, -/
def w7 (c : Dev nD) : BitVec 32 := Scalar.remsi (Scalar.addi (w2 c) 1#32) 4#32
/-- and of the device opposite. -/
def w9 (c : Dev nD) : BitVec 32 := Scalar.remsi (Scalar.addi (w2 c) 2#32) 4#32

/-! ## The eight partial results -/

/-- The tokens, -/
def tok (c : Dev nD) : FVec F S512x256 .f32 := k0_pay2 (xstg m ρ c)
/-- the experts' numbers along a row, -/
def exps : IVec S512x8 32 := iota .tc S512x8 32 [1] iota_S512x8_d1_w32
/-- where the first -/
def hot0 (c : Dev nD) : IVec S512x8 1 := k0_pay4 (col0 m ρ c)
/-- and the second choice is, -/
def hot1 (c : Dev nD) : IVec S512x8 1 := k0_pay5 (col1 m ρ c)
/-- the first choice's probability -/
def gate0 (c : Dev nD) : FVec F S512x1 .f32 := k0_pay6 (xstg m ρ c) (rwstg m ρ c) (col0 m ρ c)
/-- and the second's, spread along its row, -/
def gate1 (c : Dev nD) : FVec F S512x8 .f32 := k0_pay7 (xstg m ρ c) (rwstg m ρ c) (col1 m ρ c)
/-- and the tokens' weights by expert. -/
def wts (c : Dev nD) : FVec F S512x8 .f32 := k0_pay8 (hot0 m ρ c) (hot1 m ρ c) (gate0 m ρ c) (gate1 m ρ c)

/-- A matrix of the block, as a load of it reads. -/
abbrev up3 (X : S256x512.Idx → Elt F .bf16) : Vec F S1x256x512 .bf16 := spread squeezes_S1x256x512_S256x512 X
/-- A landed matrix, as a load of it reads. -/
abbrev up4 (X : S256x512.Idx → Elt F .bf16) : Vec F S1x1x256x512 .bf16 := spread squeezes_S1x1x256x512_S256x512 X

/-- The device's own first expert; -/
def out1 (c : Dev nD) : FVec F S512x512 .f32 :=
  k0_pay9 (w2 c) (tok m ρ c) exps (hot0 m ρ c) (hot1 m ρ c) (gate0 m ρ c) (gate1 m ρ c) (up3 (wOf m ρ c 0))
/-- its second added; -/
def out2 (c : Dev nD) : FVec F S512x512 .f32 :=
  k0_pay13 (tok m ρ c) (k0_pay10 (out1 m ρ c)) (k0_pay11 (up3 (wOf m ρ c 1))) (k0_pay12 (w2 c) exps (hot0 m ρ c) (hot1 m ρ c) (gate0 m ρ c) (gate1 m ρ c))
/-- the first of the device before; -/
def out3 (c : Dev nD) : FVec F S512x512 .f32 :=
  k0_pay17 (k0_pay14 (out2 m ρ c)) (k0_pay15 (up4 (wOf m ρ (prv c) 0))) (k0_pay16 (w5 c) (tok m ρ c) exps (wts m ρ c))
/-- the second of the device after; -/
def out4 (c : Dev nD) : FVec F S512x512 .f32 :=
  k0_pay18 (w7 c) (tok m ρ c) exps (wts m ρ c) (out3 m ρ c) (up4 (wOf m ρ (nxt c) 1))
/-- the second of the device before; -/
def out5 (c : Dev nD) : FVec F S512x512 .f32 :=
  k0_pay19 (w5 c) (tok m ρ c) exps (wts m ρ c) (out4 m ρ c) (up4 (wOf m ρ (prv c) 1))
/-- the first of the device after; -/
def out6 (c : Dev nD) : FVec F S512x512 .f32 :=
  k0_pay21 (tok m ρ c) exps (wts m ρ c) (k0_pay20 (out5 m ρ c)) (Scalar.muli (w7 c) 2#32) (up4 (wOf m ρ (nxt c) 0))
/-- the first of the device opposite; -/
def out7 (c : Dev nD) : FVec F S512x512 .f32 :=
  k0_pay25 (tok m ρ c) (k0_pay22 (out6 m ρ c)) (k0_pay23 (up4 (wOf m ρ (prv (prv c)) 0))) (k0_pay24 (w9 c) exps (wts m ρ c))
/-- and its second: the kernel's result. -/
def out8 (c : Dev nD) : FVec F S512x512 .f32 :=
  k0_pay29 (k0_pay26 (out7 m ρ c)) (k0_pay27 (up4 (wOf m ρ (nxt (nxt c)) 1))) (k0_pay28 (w9 c) (tok m ρ c) exps (wts m ρ c)) (constant S512x512 .f32 0x00000000#32)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's kernel starts from, its buffers apart: the records, its own tokens and positions, its credit. -/
def start (c : Dev nD) : sProp 𝕄 :=
  iprop((∃ K, ghost m ρ K c) ∗ cred (tallyAt (barCell c) () 2)
    ∗ (bigSep Finset.univ fun i : Fin 6 => cred (tallyAt (dCell true i c) () N)) ∗ levAts L lv)

/-- The block's buffer and the slots' buffer, at any contents. -/
def scratches (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

def Φ₀ (c : Dev nD) : sProp 𝕄 := iprop(start m ρ c ∗ scratches c)
/-- After the kernel: the two buffers, and every counter at zero. -/
def Φ₁ (c : Dev nD) : sProp 𝕄 :=
  iprop(scratches (F := F) c ∗ (bigSep Finset.univ fun k : Bool × Fin 6 => semVal ((c : Thread nD τ), osem k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ixstg m ρ c
    | ⟨3, _⟩ => ewstg m ρ c
    | ⟨4, _⟩ => out8 m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Lists of six -/

omit [FloatOps F] in
theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

omit [FloatOps F] in
/-- The counters' list: the barrier's, the send counters', the receive counters'. -/
theorem dozen (Φ : Bool × Fin 6 → sProp 𝕄) : bigSep Finset.univ Φ
    = iprop((bigSep Finset.univ fun i => Φ (false, i)) ∗ (bigSep Finset.univ fun i => Φ (true, i))) := by
  rw [bigSep_univ_prod, bigSep_univ_eq_bigSepL [false, true] (by decide) (by decide), bigSepL_cons_cons, bigSepL_singleton]
  rfl
omit [FloatOps F] in
theorem thirteen (Φ : CI → sProp 𝕄) : bigSep Finset.univ Φ
    = iprop(Φ (.inl ()) ∗ (bigSep Finset.univ fun i => Φ (.inr (false, i))) ∗ (bigSep Finset.univ fun i => Φ (.inr (true, i)))) := by
  rw [bigSep_univ_sum, dozen, bigSep_univ_eq_bigSepL [()] (by decide) (by decide), bigSepL_singleton]
  rfl

/-! ## What each transfer pays, spelled out -/

theorem send0 (c : Dev nD) : sendPay m ρ 0 c = owns (c : Thread nD τ) (ownM 0) fullShare.left.left (wOf m ρ c 0) := rfl
theorem send1 (c : Dev nD) : sendPay m ρ 1 c = owns (c : Thread nD τ) (ownM 1) fullShare.left.left (wOf m ρ c 1) := rfl
theorem send2 (c : Dev nD) : sendPay m ρ 2 c = owns (c : Thread nD τ) (ownM 1) fullShare.left.right (wOf m ρ c 1) := rfl
theorem send3 (c : Dev nD) : sendPay m ρ 3 c = owns (c : Thread nD τ) (ownM 0) fullShare.left.right (wOf m ρ c 0) := rfl
theorem send4 (c : Dev nD) : sendPay m ρ 4 c = owns (c : Thread nD τ) (slotM 0) fullShare.left (wOf m ρ (prv c) 0) := rfl
theorem send5 (c : Dev nD) : sendPay m ρ 5 c = owns (c : Thread nD τ) (slotM 2) fullShare.left (wOf m ρ (nxt c) 1) := rfl
theorem recv0 (c : Dev nD) : pay m ρ (true, 0) c = owns (c : Thread nD τ) (slotM 0) fullShare (wOf m ρ (prv c) 0) := rfl
theorem recv1 (c : Dev nD) : pay m ρ (true, 1) c = owns (c : Thread nD τ) (slotM 1) fullShare (wOf m ρ (prv c) 1) := rfl
theorem recv2 (c : Dev nD) : pay m ρ (true, 2) c = owns (c : Thread nD τ) (slotM 2) fullShare (wOf m ρ (nxt c) 1) := rfl
theorem recv3 (c : Dev nD) : pay m ρ (true, 3) c = owns (c : Thread nD τ) (slotM 3) fullShare (wOf m ρ (nxt c) 0) := rfl
theorem recv4 (c : Dev nD) : pay m ρ (true, 4) c = owns (c : Thread nD τ) (slotM 4) fullShare (wOf m ρ (prv (prv c)) 0) := rfl
theorem recv5 (c : Dev nD) : pay m ρ (true, 5) c = owns (c : Thread nD τ) (slotM 5) fullShare (wOf m ρ (nxt (nxt c)) 1) := rfl
theorem paid (i : Fin 6) (c : Dev nD) : pay m ρ (false, i) c = sendPay m ρ i c := rfl

end Cert.KernelIdeal.Exchange

end
-- ==== Proof.KernelIdeal.Body.lean ====
/-
The kernel's body on one device, effect by effect in program order: the two signals, the block's cast, the
wait for both neighbours, four transfers, the device's own two experts, then each landed matrix's expert as
its wait comes back — the first two passed on first — and the six send waits.
-/
module

public import proofs.«01_k».proof.Proof.KernelIdeal.Data
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's loads and stores of whole buffers -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

abbrev rO : Rect S512x512 := Rect.unit (s := S512x512) ![0, 0] S512x512.size inb_S512x512_S512x512_0_0
abbrev rX : Rect S512x256 := Rect.unit (s := S512x256) ![0, 0] S512x256.size inb_S512x256_S512x256_0_0
abbrev rW : Rect S256x8 := Rect.unit (s := S256x8) ![0, 0] S256x8.size inb_S256x8_S256x8_0_0
abbrev rE : Rect S2x256x512 := Rect.unit (s := S2x256x512) ![0, 0, 0] S2x256x512.size inb_S2x256x512_S2x256x512_0_0_0

omit [FloatOps F] in
theorem read_out (f : (cc0_stg4_0 : Ref sig .tc).ty.Contents (Elt F)) : (Memref.whole cc0_stg4_0 : Memref sig .tc .vmem S512x512 .f32).view.readAt (Elt F) rO.toLoadRect f = f :=
  Memref.readAt_unit_zero (Elt F) cc0_stg4_0 hz2 _ f
omit [FloatOps F] in
theorem write_out (f w : (cc0_stg4_0 : Ref sig .tc).ty.Contents (Elt F)) :
    ((Memref.whole cc0_stg4_0 : Memref sig .tc .vmem S512x512 .f32).access rO : View sig .tc _ _ _).write (Elt F) f w Finset.univ = w :=
  Memref.write_access_unit_zero_univ (Elt F) cc0_stg4_0 hz2 _ f w
omit [FloatOps F] in
theorem read_x (f : (cc0_stg0_0 : Ref sig .tc).ty.Contents (Elt F)) : (Memref.whole cc0_stg0_0 : Memref sig .tc .vmem S512x256 .f32).view.readAt (Elt F) rX.toLoadRect f = f :=
  Memref.readAt_unit_zero (Elt F) cc0_stg0_0 hz2 _ f
omit [FloatOps F] in
theorem read_rw (f : (cc0_stg1_0 : Ref sig .tc).ty.Contents (Elt F)) : (Memref.whole cc0_stg1_0 : Memref sig .tc .vmem S256x8 .f32).view.readAt (Elt F) rW.toLoadRect f = f :=
  Memref.readAt_unit_zero (Elt F) cc0_stg1_0 hz2 _ f
omit [FloatOps F] in
theorem read_ew (f : (cc0_stg3_0 : Ref sig .tc).ty.Contents (Elt F)) : (Memref.whole cc0_stg3_0 : Memref sig .tc .vmem S2x256x512 .f32).view.readAt (Elt F) rE.toLoadRect f = f :=
  Memref.readAt_unit_zero (Elt F) cc0_stg3_0 hz3 _ f
omit [FloatOps F] in
theorem write_own (f w : (cc0_scratch0 : Ref sig .tc).ty.Contents (Elt F)) :
    ((ownW).access rE : View sig .tc _ _ _).write (Elt F) f w Finset.univ = w :=
  Memref.write_access_unit_zero_univ (Elt F) cc0_scratch0 hz3 _ f w

/-- A load of the whole result buffer. -/
theorem wp_load_out (c : Dev nD) {f : (cc0_stg4_0 : Ref sig .tc).ty.Contents (Elt F)} {hl : (Memref.whole cc0_stg4_0 : Memref sig .tc .vmem S512x512 .f32).view.LoadsAt rO.toLoadRect}
    {α : Type} {Q : α → sProp 𝕄} {k : (rO.toLoadRect.shape.Idx → Elt F .f32) → Prog (TpuEff nD τ sig (Elt F) Λ₀ .tc) α} :
    (((c : Thread nD τ).loc cc0_stg4_0 ↦{fullShare} f : sProp 𝕄))
      ⊢ iprop((((c : Thread nD τ).loc cc0_stg4_0 ↦{fullShare} f) -∗ wp frame (wpE (defs₀ (F := F)) 𝒱₀ (c : Thread nD τ) none) Set.univ (k f) Q)
        -∗ wp frame (wpE (defs₀ (F := F)) 𝒱₀ (c : Thread nD τ) none) Set.univ (.op (.load (Memref.whole cc0_stg4_0) rO.toLoadRect hl) k) Q) := by
  iintro H Hk
  iapply (wp_load 𝒱₀ (c : Thread nD τ) none Set.univ (m := (Memref.whole cc0_stg4_0 : Memref sig .tc .vmem S512x512 .f32)) (Finset.subset_univ _)) $$ H
  iintro H
  rw [read_out]
  iapply Hk
  iexact H

/-- A store of the whole result buffer. -/
theorem wp_store_out (c : Dev nD) {f : (cc0_stg4_0 : Ref sig .tc).ty.Contents (Elt F)} {w : rO.shape.Idx → Elt F .f32}
    (v : (cc0_stg4_0 : Ref sig .tc).ty.Contents (Elt F)) (hv : w = v)
    {hx : ((Memref.whole cc0_stg4_0 : Memref sig .tc .vmem S512x512 .f32).access rO).Stores Finset.univ} {hm : (Finset.univ : Finset rO.shape.Idx) = Finset.univ ∨ ∀ a, rO.stride a = 1}
    {α : Type} {Q : α → sProp 𝕄} {k : PUnit → Prog (TpuEff nD τ sig (Elt F) Λ₀ .tc) α} :
    (((c : Thread nD τ).loc cc0_stg4_0 ↦{fullShare} f : sProp 𝕄))
      ⊢ iprop((((c : Thread nD τ).loc cc0_stg4_0 ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_stg4_0) rO w Finset.univ hx hm) k) Q) := by
  subst hv
  iintro H Hk
  iapply (wp_store 𝒱₀ (c : Thread nD τ) none Set.univ (m := (Memref.whole cc0_stg4_0 : Memref sig .tc .vmem S512x512 .f32)) (r := rO) (Mk := Finset.univ) (Finset.subset_univ _)) $$ H
  iintro H
  rw [write_out]
  iapply Hk
  iexact H

/-- A store of the block's whole buffer. -/
theorem wp_store_own (c : Dev nD) {f : (cc0_scratch0 : Ref sig .tc).ty.Contents (Elt F)} {w : rE.shape.Idx → Elt F .bf16}
    (v : (cc0_scratch0 : Ref sig .tc).ty.Contents (Elt F)) (hv : w = v)
    {hx : (ownW.access rE).Stores Finset.univ} {hm : (Finset.univ : Finset rE.shape.Idx) = Finset.univ ∨ ∀ a, rE.stride a = 1}
    {α : Type} {Q : α → sProp 𝕄} {k : PUnit → Prog (TpuEff nD τ sig (Elt F) Λ₀ .tc) α} :
    (((c : Thread nD τ).loc cc0_scratch0 ↦{fullShare} f : sProp 𝕄))
      ⊢ iprop((((c : Thread nD τ).loc cc0_scratch0 ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ (.op (.store ownW rE w Finset.univ hx hm) k) Q) := by
  subst hv
  iintro H Hk
  iapply (wp_store 𝒱₀ (c : Thread nD τ) none Set.univ (m := ownW) (r := rE) (Mk := Finset.univ) (Finset.subset_univ _)) $$ H
  iintro H
  rw [write_own]
  iapply Hk
  iexact H

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The five staging buffers' contents before the kernel, the result's any. -/
def stages (c : Dev nD) : sProp 𝕄 :=
  iprop(((c : Thread nD τ).loc cc0_stg0_0 ↦{fullShare} xstg m ρ c) ∗ ((c : Thread nD τ).loc cc0_stg1_0 ↦{fullShare} rwstg m ρ c)
    ∗ ((c : Thread nD τ).loc cc0_stg2_0 ↦{fullShare} ixstg m ρ c) ∗ ((c : Thread nD τ).loc cc0_stg3_0 ↦{fullShare} ewstg m ρ c))

set_option maxHeartbeats 4000000 in
/-- The body, from what the launch gives a device to the result. -/
theorem sound_body (K : Dev nD × CI → ℕ) (c : Dev nD) (g : (cc0_stg4_0 : Ref sig .tc).ty.Contents (Elt F)) (Kt : PUnit → sProp 𝕄) :
    iprop((ghost m ρ K c ∗ cred (tallyAt (barCell c) () 2) ∗ (bigSep Finset.univ fun i : Fin 6 => cred (tallyAt (dCell true i c) () N)) ∗ levAts L lv)
        ∗ scratches (F := F) c ∗ owesE c (O₀ c) ∗ stages m ρ c ∗ ((c : Thread nD τ).loc cc0_stg4_0 ↦{fullShare} g)
        ∗ ((Φ₁ (F := F) c ∗ owesE c 0 ∗ stages m ρ c ∗ ((c : Thread nD τ).loc cc0_stg4_0 ↦{fullShare} out8 m ρ c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part12_eq_skeleton]; unfold k0_part12_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [semSignalWord, semWaitWord, Prog.lift, Prog.bind_op, Prog.bind_ret, Prog.pure_eq_ret, wp_deviceId]
  unfold ghost linear payToks scratches stages
  rw [thirteen, six, six, six, six]
  iintro ⟨⟨⟨#HR, ⟨HaB, ⟨Ha0, Ha1, Ha2, Ha3, Ha4, Ha5⟩, Hb0, Hb1, Hb2, Hb3, Hb4, Hb5⟩, ⟨HtP, HtN⟩, Ht0, Ht1, Ht2, Ht3, Ht4, Ht5⟩,
    HcB, ⟨Hc0, Hc1, Hc2, Hc3, Hc4, Hc5⟩, #Hlev⟩, ⟨⟨%f0, Hown⟩, Hslots⟩, HO, ⟨Hx, Hrw, Hix, Hew⟩, Hout, Hk⟩
  -- the signals, each with the slots the neighbour's transfers fill
  ihave Hsl := (slots_split c) $$ Hslots
  icases Hsl with ⟨HsP, HsN⟩
  unfold O₀
  iapply (wp_tell m ρ K c (prv c) _ (dev1_eq c) true (O₁ c) rfl (by decide) (by routes)) $$ [HO HtP HsP]
  · isplitr; · iexact HR
    isplitl [HO]; · iexact HO
    isplitl [HtP] <;> iassumption
  iintro HO
  unfold O₁
  iapply (wp_tell m ρ K c (nxt c) _ (dev2_eq c) false (owe c order) rfl (by decide) (by routes)) $$ [HO HtN HsN]
  · isplitr; · iexact HR
    isplitl [HO]; · iexact HO
    isplitl [HtN] <;> iassumption
  iintro HO
  -- the block cast into its buffer
  iapply (wp_load 𝒱₀ (c : Thread nD τ) none Set.univ (m := (Memref.whole cc0_stg3_0 : Memref sig .tc .vmem S2x256x512 .f32)) (Finset.subset_univ _)) $$ Hew; iintro Hew
  rw [read_ew]
  iapply (wp_load 𝒱₀ (c : Thread nD τ) none Set.univ (m := ownW) (Finset.subset_univ _)) $$ Hown; iintro Hown
  iapply (wp_store_own c (wAll m ρ c) rfl) $$ Hown; iintro Hown
  -- both neighbours there
  iapply (wp_meet m ρ K c rfl (by decide)) $$ [HcB HO HaB]
  · isplitr; · iexact HR
    isplitr; · iexact Hlev
    isplitl [HcB]; · iexact HcB
    isplitl [HO]; · iexact HO
    iexact HaB
  iintro ⟨HO, HzB, HpT, HpF⟩
  ihave Hw := (own_split m ρ c) $$ Hown
  ihave HpT := (Entails.of_eq (show barPay true c = iprop(free 0 c ∗ free 1 c ∗ free 4 c) from rfl)) $$ HpT
  ihave HpF := (Entails.of_eq (show barPay false c = iprop(free 2 c ∗ free 3 c ∗ free 5 c) from rfl)) $$ HpF
  unfold thirds
  icases Hw with ⟨⟨⟨Ho0, Ho3⟩, Hl0⟩, ⟨⟨Ho1, Ho2⟩, Hl1⟩⟩
  icases HpT with ⟨Hf0, Hf1, Hf4⟩
  icases HpF with ⟨Hf2, Hf3, Hf5⟩
  -- the four transfers of the block
  iapply (wp_start m ρ K c 0 [2, 1, 3, 4, 5] _ (dev3_eq c) rfl rfl rfl rfl) $$ [Ho0 Hf0 HO Ht0]
  · isplitr; · iexact HR
    isplitl [Ho0]; · rw [send0]; iexact Ho0
    isplitl [Hf0]; · iexact Hf0
    isplitl [HO]; · iexact HO
    unfold toks2; iexact Ht0
  iintro ⟨Hd0, HO⟩
  iapply (wp_start m ρ K c 2 [1, 3, 4, 5] _ (dev4_eq c) rfl rfl rfl rfl) $$ [Ho2 Hf2 HO Ht2]
  · isplitr; · iexact HR
    isplitl [Ho2]; · rw [send2]; iexact Ho2
    isplitl [Hf2]; · iexact Hf2
    isplitl [HO]; · iexact HO
    unfold toks2; iexact Ht2
  iintro ⟨Hd2, HO⟩
  iapply (wp_start m ρ K c 1 [3, 4, 5] _ (dev5_eq c) rfl rfl rfl rfl) $$ [Ho1 Hf1 HO Ht1]
  · isplitr; · iexact HR
    isplitl [Ho1]; · rw [send1]; iexact Ho1
    isplitl [Hf1]; · iexact Hf1
    isplitl [HO]; · iexact HO
    unfold toks2; iexact Ht1
  iintro ⟨Hd1, HO⟩
  iapply (wp_start m ρ K c 3 [4, 5] _ (dev6_eq c) rfl rfl rfl rfl) $$ [Ho3 Hf3 HO Ht3]
  · isplitr; · iexact HR
    isplitl [Ho3]; · rw [send3]; iexact Ho3
    isplitl [Hf3]; · iexact Hf3
    isplitl [HO]; · iexact HO
    unfold toks2; iexact Ht3
  iintro ⟨Hd3, HO⟩
  -- the gating
  iapply (wp_load 𝒱₀ (c : Thread nD τ) none Set.univ (m := (Memref.whole cc0_stg0_0 : Memref sig .tc .vmem S512x256 .f32)) (Finset.subset_univ _)) $$ Hx; iintro Hx
  rw [read_x]
  iapply (wp_load 𝒱₀ (c : Thread nD τ) none Set.univ (m := (Memref.whole cc0_stg1_0 : Memref sig .tc .vmem S256x8 .f32)) (Finset.subset_univ _)) $$ Hrw; iintro Hrw
  rw [read_rw]
  iapply (wp_load 𝒱₀ (c : Thread nD τ) none Set.univ (m := (Memref.whole cc0_stg2_0 : Memref sig .tc .vmem S512x2 .i32)) (Finset.subset_univ _)) $$ Hix; iintro Hix
  iapply (wp_load 𝒱₀ (c : Thread nD τ) none Set.univ (m := (Memref.whole cc0_stg2_0 : Memref sig .tc .vmem S512x2 .i32)) (Finset.subset_univ _)) $$ Hix; iintro Hix
  -- the device's own two experts
  iapply (wp_load_part c (M := ownW) (r := ownR 0)) $$ Hl0; iintro Hl0
  iapply (wp_load_out c) $$ Hout; iintro Hout
  iapply (wp_store_out c (out1 m ρ c) rfl) $$ Hout; iintro Hout
  iapply (wp_load_out c) $$ Hout; iintro Hout
  iapply (wp_load_part c (M := ownW) (r := ownR 1)) $$ Hl1; iintro Hl1
  iapply (wp_load_out c) $$ Hout; iintro Hout
  iapply (wp_store_out c (out2 m ρ c) rfl) $$ Hout; iintro Hout
  -- the first matrix of the device before, passed on
  iapply (wp_take m ρ K c true 0 [4, 5] (by decide) rfl (M' := slotM 0) rfl) $$ [Hc0 HO Hb0]
  · isplitr; · iexact HR
    isplitr; · iexact Hlev
    isplitl [Hc0]; · iexact Hc0
    isplitl [HO]; · iexact HO
    iexact Hb0
  iintro ⟨HO, Hy0, Hp⟩
  ihave Hs0 := (Entails.of_eq (recv0 m ρ c)) $$ Hp
  ihave Hs0 := (owns_halves (c : Thread nD τ) (slotM 0) fullShare _).1 $$ Hs0
  icases Hs0 with ⟨Hs0, Hr0⟩
  iapply (wp_start m ρ K c 4 [5] _ (dev7_eq c) rfl rfl rfl rfl) $$ [Hs0 Hf4 HO Ht4]
  · isplitr; · iexact HR
    isplitl [Hs0]; · rw [send4]; iexact Hs0
    isplitl [Hf4]; · iexact Hf4
    isplitl [HO]; · iexact HO
    unfold toks2; iexact Ht4
  iintro ⟨Hd4, HO⟩
  -- the second of the device after, passed on
  iapply (wp_take m ρ K c true 2 [5] (by decide) rfl (M' := slotM 2) rfl) $$ [Hc2 HO Hb2]
  · isplitr; · iexact HR
    isplitr; · iexact Hlev
    isplitl [Hc2]; · iexact Hc2
    isplitl [HO]; · iexact HO
    iexact Hb2
  iintro ⟨HO, Hy2, Hp⟩
  ihave Hs2 := (Entails.of_eq (recv2 m ρ c)) $$ Hp
  ihave Hs2 := (owns_halves (c : Thread nD τ) (slotM 2) fullShare _).1 $$ Hs2
  icases Hs2 with ⟨Hs2, Hr2⟩
  iapply (wp_start m ρ K c 5 [] _ (dev8_eq c) rfl rfl rfl rfl) $$ [Hs2 Hf5 HO Ht5]
  · isplitr; · iexact HR
    isplitl [Hs2]; · rw [send5]; iexact Hs2
    isplitl [Hf5]; · iexact Hf5
    isplitl [HO]; · iexact HO
    unfold toks2; iexact Ht5
  iintro ⟨Hd5, HO⟩
  -- the landed matrices' experts
  iapply (wp_load_out c) $$ Hout; iintro Hout
  iapply (wp_load_part c (M := slots) (r := slotR 0)) $$ Hr0; iintro Hr0
  iapply (wp_load_out c) $$ Hout; iintro Hout
  iapply (wp_store_out c (out3 m ρ c) rfl) $$ Hout; iintro Hout
  iapply (wp_load_out c) $$ Hout; iintro Hout
  iapply (wp_load_part c (M := slots) (r := slotR 2)) $$ Hr2; iintro Hr2
  iapply (wp_load_out c) $$ Hout; iintro Hout
  iapply (wp_store_out c (out4 m ρ c) rfl) $$ Hout; iintro Hout
  iapply (wp_take m ρ K c true 1 [] (by decide) rfl (M' := slotM 1) rfl) $$ [Hc1 HO Hb1]
  · isplitr; · iexact HR
    isplitr; · iexact Hlev
    isplitl [Hc1]; · iexact Hc1
    isplitl [HO]; · iexact HO
    iexact Hb1
  iintro ⟨HO, Hy1, Hp⟩
  ihave Hs1 := (Entails.of_eq (recv1 m ρ c)) $$ Hp
  iapply (wp_load_out c) $$ Hout; iintro Hout
  iapply (wp_load_part c (M := slots) (r := slotR 1)) $$ Hs1; iintro Hs1
  iapply (wp_load_out c) $$ Hout; iintro Hout
  iapply (wp_store_out c (out5 m ρ c) rfl) $$ Hout; iintro Hout
  iapply (wp_take m ρ K c true 3 [] (by decide) rfl (M' := slotM 3) rfl) $$ [Hc3 HO Hb3]
  · isplitr; · iexact HR
    isplitr; · iexact Hlev
    isplitl [Hc3]; · iexact Hc3
    isplitl [HO]; · iexact HO
    iexact Hb3
  iintro ⟨HO, Hy3, Hp⟩
  ihave Hs3 := (Entails.of_eq (recv3 m ρ c)) $$ Hp
  iapply (wp_load_out c) $$ Hout; iintro Hout
  iapply (wp_load_part c (M := slots) (r := slotR 3)) $$ Hs3; iintro Hs3
  iapply (wp_load_out c) $$ Hout; iintro Hout
  iapply (wp_store_out c (out6 m ρ c) rfl) $$ Hout; iintro Hout
  iapply (wp_take m ρ K c true 4 [] (by decide) rfl (M' := slotM 4) rfl) $$ [Hc4 HO Hb4]
  · isplitr; · iexact HR
    isplitr; · iexact Hlev
    isplitl [Hc4]; · iexact Hc4
    isplitl [HO]; · iexact HO
    iexact Hb4
  iintro ⟨HO, Hy4, Hp⟩
  ihave Hs4 := (Entails.of_eq (recv4 m ρ c)) $$ Hp
  iapply (wp_load_out c) $$ Hout; iintro Hout
  iapply (wp_load_part c (M := slots) (r := slotR 4)) $$ Hs4; iintro Hs4
  iapply (wp_load_out c) $$ Hout; iintro Hout
  iapply (wp_store_out c (out7 m ρ c) rfl) $$ Hout; iintro Hout
  iapply (wp_take m ρ K c true 5 [] (by decide) rfl (M' := slotM 5) rfl) $$ [Hc5 HO Hb5]
  · isplitr; · iexact HR
    isplitr; · iexact Hlev
    isplitl [Hc5]; · iexact Hc5
    isplitl [HO]; · iexact HO
    iexact Hb5
  iintro ⟨HO, Hy5, Hp⟩
  ihave Hs5 := (Entails.of_eq (recv5 m ρ c)) $$ Hp
  iapply (wp_load_out c) $$ Hout; iintro Hout
  iapply (wp_load_part c (M := slots) (r := slotR 5)) $$ Hs5; iintro Hs5
  iapply (wp_load_out c) $$ Hout; iintro Hout
  iapply (wp_store_out c (out8 m ρ c) rfl) $$ Hout; iintro Hout
  -- the send waits
  iapply (wp_take m ρ K c false 0 [] (by decide) rfl (M' := ownM 0) rfl) $$ [Hd0 HO Ha0]
  · isplitr; · iexact HR
    isplitr; · iexact Hlev
    isplitl [Hd0]; · iexact Hd0
    isplitl [HO]; · iexact HO
    iexact Ha0
  iintro ⟨HO, Hz0, Hp⟩
  ihave Hq0 := (Entails.of_eq ((paid m ρ 0 c).trans (send0 m ρ c))) $$ Hp
  iapply (wp_take m ρ K c false 2 [] (by decide) rfl (M' := ownM 1) rfl) $$ [Hd2 HO Ha2]
  · isplitr; · iexact HR
    isplitr; · iexact Hlev
    isplitl [Hd2]; · iexact Hd2
    isplitl [HO]; · iexact HO
    iexact Ha2
  iintro ⟨HO, Hz2, Hp⟩
  ihave Hq2 := (Entails.of_eq ((paid m ρ 2 c).trans (send2 m ρ c))) $$ Hp
  iapply (wp_take m ρ K c false 1 [] (by decide) rfl (M' := ownM 1) rfl) $$ [Hd1 HO Ha1]
  · isplitr; · iexact HR
    isplitr; · iexact Hlev
    isplitl [Hd1]; · iexact Hd1
    isplitl [HO]; · iexact HO
    iexact Ha1
  iintro ⟨HO, Hz1, Hp⟩
  ihave Hq1 := (Entails.of_eq ((paid m ρ 1 c).trans (send1 m ρ c))) $$ Hp
  iapply (wp_take m ρ K c false 3 [] (by decide) rfl (M' := ownM 0) rfl) $$ [Hd3 HO Ha3]
  · isplitr; · iexact HR
    isplitr; · iexact Hlev
    isplitl [Hd3]; · iexact Hd3
    isplitl [HO]; · iexact HO
    iexact Ha3
  iintro ⟨HO, Hz3, Hp⟩
  ihave Hq3 := (Entails.of_eq ((paid m ρ 3 c).trans (send3 m ρ c))) $$ Hp
  iapply (wp_take m ρ K c false 4 [] (by decide) rfl (M' := slotM 0) rfl) $$ [Hd4 HO Ha4]
  · isplitr; · iexact HR
    isplitr; · iexact Hlev
    isplitl [Hd4]; · iexact Hd4
    isplitl [HO]; · iexact HO
    iexact Ha4
  iintro ⟨HO, Hz4, Hp⟩
  ihave Hq4 := (Entails.of_eq ((paid m ρ 4 c).trans (send4 m ρ c))) $$ Hp
  iapply (wp_take m ρ K c false 5 [] (by decide) rfl (M' := slotM 2) rfl) $$ [Hd5 HO Ha5]
  · isplitr; · iexact HR
    isplitr; · iexact Hlev
    isplitl [Hd5]; · iexact Hd5
    isplitl [HO]; · iexact HO
    iexact Ha5
  iintro ⟨HO, Hz5, Hp⟩
  ihave Hq5 := (Entails.of_eq ((paid m ρ 5 c).trans (send5 m ρ c))) $$ Hp
  rw [wp_ret]; imodintro
  -- everything back together
  ihave Hs0 := (owns_halves (c : Thread nD τ) (slotM 0) fullShare _).2 $$ [Hq4 Hr0]
  · isplitl [Hq4]; · iexact Hq4
    iexact Hr0
  ihave Hs2 := (owns_halves (c : Thread nD τ) (slotM 2) fullShare _).2 $$ [Hq5 Hr2]
  · isplitl [Hq5]; · iexact Hq5
    iexact Hr2
  iapply Hk
  unfold Φ₁ scratches
  rw [dozen, six, six]
  isplitl [Hq0 Hq1 Hq2 Hq3 Hl0 Hl1 Hs0 Hs1 Hs2 Hs3 Hs4 Hs5 Hz0 Hz1 Hz2 Hz3 Hz4 Hz5 Hy0 Hy1 Hy2 Hy3 Hy4 Hy5 HzB]
  · isplitl [Hq0 Hq1 Hq2 Hq3 Hl0 Hl1 Hs0 Hs1 Hs2 Hs3 Hs4 Hs5]
    · isplitl [Hq0 Hq1 Hq2 Hq3 Hl0 Hl1]
      · iexists (wAll m ρ c)
        iapply (own_join m ρ c)
        unfold thirds
        isplitl [Hq0 Hq3 Hl0]
        · isplitl [Hq0 Hq3]
          · isplitl [Hq0]; · iexact Hq0
            iexact Hq3
          iexact Hl0
        · isplitl [Hq1 Hq2]
          · isplitl [Hq1]; · iexact Hq1
            iexact Hq2
          iexact Hl1
      · iapply (slots_whole c)
        rw [six]
        isplitl [Hs0]; · iexists _; iexact Hs0
        isplitl [Hs1]; · iexists _; iexact Hs1
        isplitl [Hs2]; · iexists _; iexact Hs2
        isplitl [Hs3]; · iexists _; iexact Hs3
        isplitl [Hs4]; · iexists _; iexact Hs4
        iexists _; iexact Hs5
    isplitr [HzB]
    · isplitl [Hz0 Hz1 Hz2 Hz3 Hz4 Hz5]
      · isplitl [Hz0]; · iexact Hz0
        isplitl [Hz1]; · iexact Hz1
        isplitl [Hz2]; · iexact Hz2
        isplitl [Hz3]; · iexact Hz3
        isplitl [Hz4]; · iexact Hz4
        iexact Hz5
      · isplitl [Hy0]; · iexact Hy0
        isplitl [Hy1]; · iexact Hy1
        isplitl [Hy2]; · iexact Hy2
        isplitl [Hy3]; · iexact Hy3
        isplitl [Hy4]; · iexact Hy4
        iexact Hy5
    · iexact HzB
  isplitl [HO]; · iexact HO
  isplitl [Hx Hrw Hix Hew]
  · isplitl [Hx]; · iexact Hx
    isplitl [Hrw]; · iexact Hrw
    isplitl [Hix]; · iexact Hix
    iexact Hew
  iexact Hout

omit [FloatOps F] in
theorem owns_staged (c : Dev nD) (b : Ref sig .tc) (X : b.ty.Contents (Elt F)) :
    (owns (c : Thread nD τ) (Memref.whole b) fullShare X : sProp 𝕄) = stg c b X := by
  unfold owns stg; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ (F := F) c ∗ (dats m ρ 0 c).owesAt () t₀.succ ∗ stg c cc0_stg0_0 (xstg m ρ c) ∗ stg c cc0_stg1_0 (rwstg m ρ c)
    ∗ stg c cc0_stg2_0 (ixstg m ρ c) ∗ stg c cc0_stg3_0 (ewstg m ρ c) ∗ stg c cc0_stg4_0 (out8 m ρ c))

theorem before_0 (c : Dev nD) (d) : (dats m ρ 0 c).before (0 : Fin 5) t₀ d = xstg m ρ c := by
  unfold Dat.before; rw [if_pos (fetch0_0 t₀)]; rfl
theorem before_1 (c : Dev nD) (d) : (dats m ρ 0 c).before (1 : Fin 5) t₀ d = rwstg m ρ c := by
  unfold Dat.before; rw [if_pos (fetch0_1 t₀)]; rfl
theorem before_2 (c : Dev nD) (d) : (dats m ρ 0 c).before (2 : Fin 5) t₀ d = ixstg m ρ c := by
  unfold Dat.before; rw [if_pos (fetch0_2 t₀)]; rfl
theorem before_3 (c : Dev nD) (d) : (dats m ρ 0 c).before (3 : Fin 5) t₀ d = ewstg m ρ c := by
  unfold Dat.before; rw [if_pos (fetch0_3 t₀)]; rfl

set_option maxRecDepth 4000 in
/-- What the launch asks of the kernel's body on device `c`. -/
theorem body_obligation (c : Dev nD) : BodyObligation (dats (F := F) m ρ 0 c) (defs₀ (F := F)) 𝒱₀ () Set.univ := fun t => by
  rw [fin_N t]
  rw [bigSep_W0, bigSep_W0]
  simp only [owns_staged]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3)
    (fun _ => bodyPost m ρ c)
  unfold bodyPre' Φ₀ start Dat.owesAt Pipeline.owesWithin
  rw [show (dats m ρ 0 c).owed t₀.castSucc = O₀ c from rfl]
  iintro ⟨⟨⟨⟨%K, Hg⟩, HcB, Hcs, #Hlev⟩, Hscr⟩, ⟨%W, %hW, HO⟩, ⟨%d0, %g0, %hg0, Hx⟩, ⟨%d1, %g1, %hg1, Hrw⟩, ⟨%d2, %g2, %hg2, Hix⟩, ⟨%d3, %g3, %hg3, Hew⟩, ⟨%d4, %g4, %hg4, Hout⟩⟩
  rw [before_0] at hg0
  rw [before_1] at hg1
  rw [before_2] at hg2
  rw [before_3] at hg3
  subst hg0 hg1 hg2 hg3
  iapply (sound_body m ρ K c g4 fun _ => bodyPost m ρ c)
  unfold owesE stages
  isplitl [Hg HcB Hcs]
  · isplitl [Hg]; · iexact Hg
    isplitl [HcB]; · iexact HcB
    isplitl [Hcs]; · iexact Hcs
    iexact Hlev
  isplitl [Hscr]; · iexact Hscr
  isplitl [HO]; · iexists W; iexact HO
  isplitl [Hx Hrw Hix Hew]
  · isplitl [Hx]; · iexact Hx
    isplitl [Hrw]; · iexact Hrw
    isplitl [Hix]; · iexact Hix
    iexact Hew
  isplitl [Hout]; · iexact Hout
  iintro ⟨HΦ, ⟨%W', HO⟩, ⟨Hx, Hrw, Hix, Hew⟩, Hout⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hix]
  · iexists _; isplitr; · (ipureintro; rfl)
    iexact Hix
  isplitl [Hew]
  · iexists _; isplitr; · (ipureintro; rfl)
    iexact Hew
  iexists _; isplitr; · (ipureintro; rfl)
  iexact Hout

end Cert.KernelIdeal.Exchange

end
-- ==== Proof.KernelIdeal.Launch.lean ====
/-
The launch: the counters' cells and tokens dealt to the four devices, the credit each device waits with, and
the run of the whole program — every device's result at what the kernel computes, the arguments as they were,
every counter back at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective fun ck : Dev nD × CI => kcell ck.1 ck.2 := by
  rintro ⟨c, k⟩ ⟨c', k'⟩ h
  have h1 : c = c' := congrArg (fun g : GSem nD τ sig => g.1.1) h
  have h2 : k = k' := csem_inj (congrArg Prod.snd h)
  rw [h1, h2]
/-- Every counter the devices use. -/
def cells : Finset (GSem nD τ sig) := Finset.univ.map ⟨fun ck : Dev nD × CI => kcell ck.1 ck.2, kcell_injective⟩

/-- A counter's duty: the barrier's two, and the one of each transfer's counter. -/
abbrev duty (k : Bool ⊕ (Bool × Fin 6)) : CI × Bool := match k with
  | .inl b => (.inl (), b)
  | .inr k => (.inr k, false)
theorem duty_injective : Function.Injective duty := by decide
abbrev tokOf (cj : Dev nD × (Bool ⊕ (Bool × Fin 6))) : GSem nD τ sig × ℕ × Bool := (kcell cj.1 (duty cj.2).1, 0, (duty cj.2).2)
theorem tokOf_injective : Function.Injective tokOf := by
  rintro ⟨c, k⟩ ⟨c', k'⟩ h
  have h0 := kcell_injective (a₁ := (c, (duty k).1)) (a₂ := (c', (duty k').1)) (congrArg Prod.fst h)
  have h1 : c = c' := congrArg Prod.fst h0
  have h2 : k = k' := duty_injective (Prod.ext (congrArg Prod.snd h0) (congrArg (fun x : GSem nD τ sig × ℕ × Bool => x.2.2) h))
  rw [h1, h2]
/-- Every duty's token. -/
def tokens : Finset (GSem nD τ sig × ℕ × Bool) := Finset.univ.map ⟨tokOf, tokOf_injective⟩

/-- What the launch starts from: the pipeline's own cells, and the exchange's. -/
def u₀ : UU :=
  (initOf (Pipeline.cells cfgs cellOf_inj) (Pipeline.launchToks cfgs cellOf_inj), initOf cells tokens)

/-- The tokens of the duties at device `c`'s own counters. -/
def toks (c : Dev nD) : sProp 𝕄 :=
  iprop((dutyTok ER (barCell c) 0 true ∗ dutyTok ER (barCell c) 0 false)
    ∗ (bigSep Finset.univ fun i : Fin 6 => dutyTok ER (dCell false i c) 0 false)
    ∗ (bigSep Finset.univ fun i : Fin 6 => dutyTok ER (dCell true i c) 0 false))

/-- What device `c` is dealt first: its own counters' cells, positions and tokens. -/
def G (c : Dev nD) : sProp 𝕄 :=
  iprop((bigSep Finset.univ fun k : CI => roundState ER (rd m ρ) (kcell c k) 0)
    ∗ (bigSep Finset.univ fun k : CI => iprop(atPos ER (kcell c k) 0 ∅ 0 ∗ reached ER (kcell c k) 0)) ∗ toks c)

/-- What it holds once the devices' tokens have gone round: the records, and the tokens of the duties it pays. -/
def G' (c : Dev nD) : sProp 𝕄 := iprop(∃ K, ghost m ρ K c)

omit [FloatOps F] in
theorem tokens_eq (c : Dev nD) :
    (bigSep Finset.univ fun k : Bool ⊕ (Bool × Fin 6) => (dutyTok ER (kcell c (duty k).1) 0 (duty k).2 : sProp 𝕄)) = toks c := by
  unfold toks
  rw [bigSep_univ_sum, dozen, bigSep_univ_eq_bigSepL [true, false] (by decide) (by decide), bigSepL_cons_cons, bigSepL_singleton]
  rfl

theorem fund : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CI => Φ (kcell c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => tokens_eq c
  iintro HX
  imod (Rounds.fund ER (rd m ρ) cells tokens) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The invariants -/

omit [FloatOps F] in
/-- The barrier counter is the launch's one counter outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell c k) 0 : sProp 𝕄) := by
  unfold Pipeline.ownSems0
  rw [unscopedSems0_eq, thirteen, dozen]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (kcell c k)))
          ∗ (bigSep Finset.univ fun k : CI => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CI => semVal (kcell c k) 0) ∗ bigSep Finset.univ fun k : CI => roundState ER (rd m ρ) (kcell c k) 0)
      ⊢ (|={Set.univ}=> bigSep Finset.univ fun k : CI => iprop(∃ κ : ℕ, cellInv ER (rd m ρ) κ (kcell c k)) : sProp 𝕄) from by
        rw [← bigSep_sep']
        exact (bigSep_mono fun k _ => (Rounds.body_intro ER (rd m ρ) (kcell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
theorem exchanged (Φ : Dev nD → Fin 6 → sProp 𝕄) :
    (bigSep Finset.univ fun c => bigSep Finset.univ fun i => Φ c i) = bigSep Finset.univ fun i => bigSep Finset.univ fun c => Φ c i := by
  rw [← bigSep_univ_prod fun ci : Dev nD × Fin 6 => Φ ci.1 ci.2, bigSep_univ_equiv (Equiv.prodComm (Fin 6) (Dev nD)), bigSep_univ_prod]
  rfl

omit [FloatOps F] in
/-- The tokens go round: each to the device that pays its duty. -/
theorem toks_around : (bigSep Finset.univ fun c : Dev nD => (toks c : sProp 𝕄)) ⊢ bigSep Finset.univ fun c : Dev nD => payToks c := by
  have hR : (bigSep Finset.univ fun c : Dev nD => bigSep Finset.univ fun i : Fin 6 => (dutyTok ER (dCell true i c) 0 false : sProp 𝕄))
      = bigSep Finset.univ fun c : Dev nD => bigSep Finset.univ fun i : Fin 6 => dutyTok ER (dCell true i (tgt i c)) 0 false := by
    rw [exchanged, exchanged fun (c : Dev nD) (i : Fin 6) => (dutyTok ER (dCell true i (tgt i c)) 0 false : sProp 𝕄)]
    exact bigSep_congr fun i _ => bigSep_univ_equiv (around i) fun c : Dev nD => (dutyTok ER (dCell true i c) 0 false : sProp 𝕄)
  unfold toks payToks
  simp only [bigSep_sep']
  rw [hR, bigSep_univ_equiv ring.symm (fun c : Dev nD => (dutyTok ER (barCell c) 0 true : sProp 𝕄)),
    bigSep_univ_equiv ring (fun c : Dev nD => (dutyTok ER (barCell c) 0 false : sProp 𝕄))]
  exact .rfl

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ linear c) ⊢ G' m ρ c := by
  unfold G' ghost
  iintro H
  iexists K
  iexact H

theorem regroup :
    (bigSep Finset.univ fun c : Dev nD => iprop((bigSep Finset.univ fun k : CI => iprop(∃ κ : ℕ, cellInv ER (rd m ρ) κ (kcell c k)))
          ∗ (bigSep Finset.univ fun k : CI => iprop(atPos ER (kcell c k) 0 ∅ 0 ∗ reached ER (kcell c k) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck.1 ck.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck.1 ck.2) : sProp 𝕄))) $$ HI
  icases HK with ⟨%K, #HI⟩
  ihave Htk := (toks_around (F := F)) $$ Htok
  iapply (bigSep_beside (R := records m ρ K) fun c _ => ghost_intro m ρ K c)
  isplitr
  · unfold records; isplitl; · iexact HI
    iexact HR
  · iapply (Entails.of_eq (bigSep_sep' Finset.univ (fun c : Dev nD => bigSep Finset.univ fun k : CI => (atPos ER (kcell c k) 0 ∅ 0 : sProp 𝕄)) payToks).symm)
    isplitl [Hat]; · iexact Hat
    iexact Htk

/-- The devices' counters become the exchange's cells, all at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem bar_eq_iff {a b : Dev nD} : barCell a = barCell b ↔ a = b :=
  ⟨fun h => congrArg (fun g : GSem nD τ sig => g.1.1) h, fun h => h ▸ rfl⟩
theorem recv_eq_iff {i j : Fin 6} {a b : Dev nD} : dCell true i a = dCell true j b ↔ i = j ∧ a = b := by
  constructor
  · intro h
    have h' := kcell_injective (a₁ := (a, .inr (true, i))) (a₂ := (b, .inr (true, j))) h
    exact ⟨congrArg (fun k : Dev nD × CI => match k.2 with | .inr k => k.2 | .inl _ => 0) h', congrArg Prod.fst h'⟩
  · rintro ⟨rfl, rfl⟩; rfl
theorem bar_ne_recv {i : Fin 6} {a b : Dev nD} : barCell a ≠ dCell true i b := fun h => by
  have h' := kcell_injective (a₁ := (a, .inl ())) (a₂ := (b, .inr (true, i))) h
  cases congrArg Prod.snd h'

theorem owe_bar (d c : Dev nD) (l : List (Fin 6)) : owe d l (barCell c) () = 0 := by
  by_contra h
  obtain ⟨i, -, e⟩ := owe_pos (Nat.pos_of_ne_zero h)
  exact bar_ne_recv e

/-- Among the transfers of `l` device `d` owes device `c`'s receive counter `i` a landing for each that arrives there. -/
theorem owe_recv (d c : Dev nD) (i : Fin 6) (l : List (Fin 6)) :
    owe d l (dCell true i c) () = if d = src i c then l.count i * N else 0 := by
  induction l with
  | nil => unfold owe; split <;> simp
  | cons j l ih =>
    unfold owe
    rw [Pi.add_apply, Finsupp.add_apply, ih, tallyAt_apply]
    by_cases hj : j = i
    · subst hj
      rw [List.count_cons_self]
      by_cases hd : d = src j c
      · rw [if_pos hd, if_pos hd, if_pos ⟨recv_eq_iff.mpr ⟨rfl, by rw [hd, tgt_src]⟩, rfl⟩, Nat.succ_mul]
      · rw [if_neg hd, if_neg hd, if_neg fun h => hd (by rw [(recv_eq_iff.mp h.1).2, src_tgt])]
    · rw [if_neg (c := _ ∧ _) fun h => hj (recv_eq_iff.mp h.1).1.symm, Nat.add_zero, List.count_cons_of_ne hj]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owe_bar, tallyAt_apply, tallyAt_apply, Nat.zero_add]
  congr 1
  · refine if_congr ⟨fun h => ?_, fun h => ⟨?_, rfl⟩⟩ rfl rfl
    · rw [bar_eq_iff.mp h.1, prv_nxt]
    · rw [h, nxt_prv]
  · refine if_congr ⟨fun h => ?_, fun h => ⟨?_, rfl⟩⟩ rfl rfl
    · rw [bar_eq_iff.mp h.1, nxt_prv]
    · rw [h, prv_nxt]

theorem count_order (i : Fin 6) : order.count i = 1 := by revert i; decide

theorem owed_recv (d c : Dev nD) (i : Fin 6) : O₀ d (dCell true i c) () = if d = src i c then N else 0 := by
  unfold O₀ O₁
  rw [Pi.add_apply, Finsupp.add_apply, Pi.add_apply, Finsupp.add_apply, owe_recv, count_order, Nat.one_mul, tallyAt_apply, tallyAt_apply,
    if_neg (c := _ ∧ _) fun h => bar_ne_recv h.1.symm, if_neg (c := _ ∧ _) fun h => bar_ne_recv h.1.symm]
  rfl

/-- Together the devices owe each barrier counter two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- and each receive counter one landing. -/
theorem launch_recv (c : Dev nD) (i : Fin 6) :
    tallyOn (dCell true i c) (launchCredit (Pipeline.owing O₀) 0 (dCell true i c)) = (tallyAt (dCell true i c) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (src i c) fun _ => N, if_pos (Finset.mem_univ _)]

theorem recvSem_inj : Function.Injective fun i : Fin 6 => osem (true, i) := by decide
theorem recvSem_ne (i : Fin 6) : osem (true, i) ≠ SemLoc.reg barS := by intro h; cases h

omit [FloatOps F] in
/-- So each device starts with the credit it waits with. -/
theorem creds (c : Dev nD) :
    (Pipeline.launchCred O₀ c : sProp 𝕄) ⊢ iprop(cred (tallyAt (barCell c) () 2) ∗ bigSep Finset.univ fun i : Fin 6 => cred (tallyAt (dCell true i c) () N)) := by
  unfold Pipeline.launchCred
  rw [bigSep_univ_at _ (SemLoc.reg barS), launch_bar]
  refine sep_mono_right ?_
  rw [← bigSep_congr (s := Finset.univ) fun (i : Fin 6) _ => congrArg (fun t => (cred t : sProp 𝕄)) (launch_recv c i)]
  refine (BI.bigSep_subset (t := Finset.univ.map ⟨fun i : Fin 6 => osem (true, i), recvSem_inj⟩) fun s hs => ?_).trans (Entails.of_eq (bigSep_map _))
  obtain ⟨i, -, rfl⟩ := Finset.mem_map.mp hs
  exact Finset.mem_erase.mpr ⟨recvSem_ne i, Finset.mem_univ _⟩

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scratches Pipeline.ownSems0
  iintro ⟨Hr, Hz, HzB⟩
  isplitl [HzB]; · iexact HzB
  isplitl [Hz]; · iexact Hz
  iexact Hr

theorem kind_stage : ∀ (w : Fin cfg0.W) (s : Fin (cfg0.win w).nbuf), ∀ k, csem k ≠ .dma ((cfg0.win w).sem s) := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (dif_neg fun ⟨k, hk⟩ => kind_stage w s k hk) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four devices' programs ends, with the
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-! ## The arrays after the run -/

omit [FloatOps F] in
theorem staged_whole (b : Ref sig .tc) (f : b.ty.Contents (Elt F)) {off : Fin b.ty.shape.rank → Nat} (h : off = fun _ => 0)
    (inb : ∀ a, off a + b.ty.shape.size a ≤ b.ty.shape.size a) :
    ((Memref.whole b).access (Rect.unit off b.ty.shape.size inb) : View sig .tc _ _ _).read (Elt F) f = f :=
  Memref.read_access_unit_zero (Elt F) b h inb f

/-- A device's tokens are staged as they are, -/
theorem xstg_eq (c : Dev nD) : xstg m ρ c = m ((c : Thread nD τ).loc main_arg0) :=
  staged_whole main_arg0 _ (funext fun a => by fin_cases a <;> rfl) _
/-- and the router's weights, -/
theorem rwstg_eq (c : Dev nD) : rwstg m ρ c = m ((c : Thread nD τ).loc main_arg1) :=
  staged_whole main_arg1 _ (funext fun a => by fin_cases a <;> rfl) _
/-- the routes, -/
theorem ixstg_eq (c : Dev nD) : ixstg m ρ c = m ((c : Thread nD τ).loc main_arg2) :=
  staged_whole main_arg2 _ (funext fun a => by fin_cases a <;> rfl) _
/-- the experts' weights. -/
theorem ewstg_eq (c : Dev nD) : ewstg m ρ c = m ((c : Thread nD τ).loc main_arg3) :=
  staged_whole main_arg3 _ (funext fun a => by fin_cases a <;> rfl) _

/-- The result's array holds what the kernel left. -/
theorem finalA_out (c : Dev nD) : finalA m ρ c (4 : Fin 5) = out8 m ρ c := by
  have h : (win0_4.blk (0 : Fin 1)).view.read (Elt F) (finalA m ρ c (4 : Fin 5)) = out8 m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← h]
  exact (staged_whole main_v1 _ (funext fun a => by fin_cases a <;> rfl) _).symm

/-- What a run leaves: each device's result, its four arguments as they were, and the counters at zero. -/
theorem run_out : θ_run defs (onTc (τ := τ) (main (F := F))) (s₀ m ρ) (fun r =>
    (∀ c : Dev nD, r.2.mem ((c : Thread nD τ).loc main_v1) = out8 m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨(h.1 c (4 : Fin 5)).trans (finalA_out m ρ c),
      (h.1 c (0 : Fin 5)).trans ((dats (F := F) m ρ 0 c).arrAt_in (0 : Fin 5) rfl _),
      (h.1 c (1 : Fin 5)).trans ((dats (F := F) m ρ 0 c).arrAt_in (1 : Fin 5) rfl _),
      (h.1 c (2 : Fin 5)).trans ((dats (F := F) m ρ 0 c).arrAt_in (2 : Fin 5) rfl _),
      (h.1 c (3 : Fin 5)).trans ((dats (F := F) m ρ 0 c).arrAt_in (3 : Fin 5) rfl _)⟩, h.2⟩) (run_main m ρ)

end Cert.KernelIdeal.Exchange

end
-- ==== Proof.Runs.lean ====
/-
The runs of the three programs with their values dropped: each ends, its arguments as they were, every counter
at zero.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel over machine floats: it ends, with its arguments as they were. -/
theorem frame_kernel : Cert.quiescent_Kernel (hKernel := Cert.Kernel.Gen.facts) := fun m g _ =>
  (θ_run Cert.Kernel.defs _ _).mono (fun _ h => ⟨fun c => (h.1 c).2, h.2⟩) (Cert.Kernel.Exchange.run_out (F := Bits) m g)

/-- The kernel over extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Exchange.run_out (F := Ideal) m g)

/-- The reference over extended reals. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.Scalar.lean ====
/-
The arithmetic of one token, on the extended reals: the probabilities of the eight experts, the two the token's route
picks, and that the eight experts' outputs, each weighted before its product, sum to the two picked outputs weighted after.
-/
module

public import Idealize.ShloMosaic.Lib.Pointwise

@[expose] public section

noncomputable section

namespace Cert.Moe

open Idealize.ShloMosaic

/-! ## A word that picks an expert -/

/-- Expert `e` is the one the word picks. -/
abbrev Hit (i : BitVec 32) (e : Fin 8) : Prop := BitVec.ofNat 32 e.val = i

/-- The picked expert's value, `z` where the word is no expert's number. -/
def pick {α : Type} (i : BitVec 32) (z : α) (f : Fin 8 → α) : α := if h : i.toNat < 8 then f ⟨i.toNat, h⟩ else z

theorem hit_iff (i : BitVec 32) (e : Fin 8) : Hit i e ↔ i.toNat = e.val := by
  have he : e.val % 2 ^ 32 = e.val := Nat.mod_eq_of_lt (by omega)
  constructor
  · intro h; rw [← h, BitVec.toNat_ofNat, he]
  · intro h; apply BitVec.eq_of_toNat_eq; rw [BitVec.toNat_ofNat, he, h]

/-- A sum over the experts of the picked one's term alone. -/
theorem sum_hit (i : BitVec 32) (f : Fin 8 → EReal) : ∑ e, (if Hit i e then f e else 0) = pick i 0 f := by
  unfold pick
  split
  · rename_i h
    rw [Finset.sum_eq_single ⟨i.toNat, h⟩]
    · rw [if_pos ((hit_iff _ _).2 rfl)]
    · intro e _ he
      exact if_neg fun hh => he (Fin.ext ((hit_iff _ _).1 hh).symm)
    · intro hh; exact absurd (Finset.mem_univ _) hh
  · rename_i h
    exact Finset.sum_eq_zero fun e _ => if_neg fun hh => h (by rw [(hit_iff _ _).1 hh]; exact e.isLt)

/-! ## The probabilities -/

/-- A token's score for an expert, -/
def score (x : Fin 256 → EReal) (R : Fin 256 → Fin 8 → EReal) (e : Fin 8) : EReal := ∑ k, x k * R k e
/-- the largest of a list of scores, -/
def top (s : Fin 8 → EReal) : EReal := Finset.univ.fold max ⊥ s
/-- and an expert's probability. -/
def prob (s : Fin 8 → EReal) (e : Fin 8) : EReal :=
  Ideal.div (Ideal.exp (s e - top s)) (∑ e', Ideal.exp (s e' - top s))

/-- The score of finite entries is finite. -/
theorem score_real {x : Fin 256 → EReal} {R : Fin 256 → Fin 8 → EReal} (hx : ∀ k, ∃ r : ℝ, x k = r)
    (hR : ∀ k e, ∃ r : ℝ, R k e = r) (e : Fin 8) : ∃ r : ℝ, score x R e = r := by
  choose a ha using hx
  choose b hb using hR
  refine ⟨∑ k, a k * b k e, ?_⟩
  unfold score
  simp only [ha, hb, ← EReal.coe_mul]
  norm_cast

/-- Probabilities of finite scores are positive and finite. -/
theorem prob_pos {s : Fin 8 → EReal} (hs : ∀ e, ∃ r : ℝ, s e = r) : ∃ q : Fin 8 → ℝ, (∀ e, 0 < q e) ∧ ∀ e, prob s e = q e := by
  have htop : ∃ r : ℝ, top s = r := by
    obtain ⟨e, -, he⟩ := Finset.exists_mem_eq_sup Finset.univ ⟨(0 : Fin 8), Finset.mem_univ _⟩ s
    obtain ⟨r, hr⟩ := hs e
    exact ⟨r, (show top s = s e from he).trans hr⟩
  obtain ⟨t, ht⟩ := htop
  choose r hr using hs
  have hexp : ∀ e, Ideal.exp (s e - top s) = ((Real.exp (r e - t) : ℝ) : EReal) := fun e => by
    rw [ht, hr, ← EReal.coe_sub]; rfl
  have hsum : (0 : ℝ) < ∑ e, Real.exp (r e - t) := Finset.sum_pos (fun e _ => Real.exp_pos _) ⟨0, Finset.mem_univ _⟩
  refine ⟨fun e => Real.exp (r e - t) * (1 / ∑ e', Real.exp (r e' - t)),
    fun e => mul_pos (Real.exp_pos _) (one_div_pos.2 hsum), fun e => ?_⟩
  unfold prob
  simp only [hexp]
  rw [show (∑ e', ((Real.exp (r e' - t) : ℝ) : EReal)) = ((∑ e', Real.exp (r e' - t) : ℝ) : EReal) by norm_cast,
    Ideal.div_coe hsum.ne', ← EReal.coe_mul]

/-! ## The result of one token -/

/-- A token's weight of an expert: its share where the first or the second word picks it. -/
def weight (p : Fin 8 → EReal) (i j : BitVec 32) (e : Fin 8) : EReal :=
  (if Hit i e then Ideal.div (pick i 0 p) (pick i 0 p + pick j 0 p) else 0)
    + (if Hit j e then Ideal.div (pick j 0 p) (pick i 0 p + pick j 0 p) else 0)

/-- One expert's contribution to an entry, the token weighted first. -/
def part (w : EReal) (x W : Fin 256 → EReal) : EReal := ∑ k, w * x k * W k

/-- The two picked experts' outputs, weighted. -/
def mixed (p : Fin 8 → EReal) (i j : BitVec 32) (x : Fin 256 → EReal) (W : Fin 8 → Fin 256 → EReal) : EReal :=
  Ideal.div (pick i 0 p) (pick i 0 p + pick j 0 p) * (∑ k, x k * pick i 0 fun e => W e k)
    + Ideal.div (pick j 0 p) (pick i 0 p + pick j 0 p) * (∑ k, x k * pick j 0 fun e => W e k)

/-- A finite nonnegative factor moves into a sum. -/
theorem mul_sum_of_nonneg {ι : Type} {a : EReal} (ha : 0 ≤ a) (ha' : a ≠ ⊤) (s : Finset ι) (f : ι → EReal) :
    a * ∑ k ∈ s, f k = ∑ k ∈ s, a * f k := by
  classical
  induction s using Finset.induction_on with
  | empty => simp
  | insert k s hk ih =>
    rw [Finset.sum_insert hk, Finset.sum_insert hk, EReal.left_distrib_of_nonneg_of_ne_top ha ha', ih]

/-- A contribution of a weight in two finite nonnegative parts. -/
theorem part_add {a b : EReal} (ha : 0 ≤ a) (ha' : a ≠ ⊤) (hb : 0 ≤ b) (hb' : b ≠ ⊤) (x W : Fin 256 → EReal) :
    part (a + b) x W = a * (∑ k, x k * W k) + b * (∑ k, x k * W k) := by
  unfold part
  rw [mul_sum_of_nonneg ha ha', mul_sum_of_nonneg hb hb', ← Finset.sum_add_distrib]
  refine Finset.sum_congr rfl fun k _ => ?_
  rw [mul_assoc, EReal.right_distrib_of_nonneg ha hb]

/-- What a word picks of positive finite numbers is nonnegative and finite. -/
theorem pick_real (q : Fin 8 → ℝ) (hq : ∀ e, 0 < q e) (i : BitVec 32) :
    ∃ r : ℝ, 0 ≤ r ∧ (pick i 0 fun e => ((q e : ℝ) : EReal)) = r ∧ ∀ e, Hit i e → 0 < r := by
  unfold pick
  split
  · exact ⟨_, (hq _).le, rfl, fun _ _ => hq _⟩
  · rename_i h
    exact ⟨0, le_rfl, rfl, fun e he => absurd (by rw [(hit_iff _ _).1 he]; exact e.isLt) h⟩

/-- The share of one of two finite nonnegative numbers, of which it is the positive one, is finite and nonnegative. -/
theorem share {a b : ℝ} (ha : 0 ≤ a) (hab : 0 < a + b) :
    0 ≤ Ideal.div (a : EReal) ((a : EReal) + b) ∧ Ideal.div (a : EReal) ((a : EReal) + b) ≠ ⊤ := by
  rw [← EReal.coe_add, Ideal.div_coe hab.ne', ← EReal.coe_mul]
  exact ⟨EReal.coe_nonneg.2 (mul_nonneg ha (one_div_pos.2 hab).le), EReal.coe_ne_top _⟩

/-- A weighted pick of nothing is nothing, of an expert its output. -/
theorem mul_pick (u : EReal) (i : BitVec 32) (x : Fin 256 → EReal) (W : Fin 8 → Fin 256 → EReal) :
    (pick i 0 fun e => u * ∑ k, x k * W e k) = u * ∑ k, x k * pick i 0 fun e => W e k := by
  unfold pick
  split
  · rfl
  · simp

/-- The experts' contributions of a token sum to its two picked experts' outputs, weighted. -/
theorem sum_parts {p : Fin 8 → EReal} (hp : ∃ q : Fin 8 → ℝ, (∀ e, 0 < q e) ∧ ∀ e, p e = q e) (i j : BitVec 32)
    (x : Fin 256 → EReal) (W : Fin 8 → Fin 256 → EReal) :
    ∑ e, part (weight p i j e) x (W e) = mixed p i j x W := by
  obtain ⟨q, hq, hpq⟩ := hp
  obtain rfl : p = fun e => ((q e : ℝ) : EReal) := funext hpq
  obtain ⟨a, ha, hai, hia⟩ := pick_real q hq i
  obtain ⟨b, hb, hbj, hjb⟩ := pick_real q hq j
  unfold mixed weight
  rw [hai, hbj, ← mul_pick, ← mul_pick, ← sum_hit, ← sum_hit, ← Finset.sum_add_distrib]
  refine Finset.sum_congr rfl fun e _ => ?_
  have hu : 0 ≤ (if Hit i e then Ideal.div (a : EReal) ((a : EReal) + b) else 0)
      ∧ (if Hit i e then Ideal.div (a : EReal) ((a : EReal) + b) else 0) ≠ ⊤ := by
    split
    · rename_i h; exact share ha (add_pos_of_pos_of_nonneg (hia e h) hb)
    · exact ⟨le_rfl, EReal.zero_ne_top⟩
  have hv : 0 ≤ (if Hit j e then Ideal.div (b : EReal) ((a : EReal) + b) else 0)
      ∧ (if Hit j e then Ideal.div (b : EReal) ((a : EReal) + b) else 0) ≠ ⊤ := by
    split
    · rename_i h
      rw [add_comm (a : EReal)]
      exact share hb (add_pos_of_pos_of_nonneg (hjb e h) ha)
    · exact ⟨le_rfl, EReal.zero_ne_top⟩
  rw [part_add hu.1 hu.2 hv.1 hv.2]
  simp only [ite_mul, zero_mul]

end Cert.Moe

end
-- ==== Proof.Value.Block.lean ====
/-
One device's block, entry by entry, on the extended reals: its probabilities, its weights, and the eight partial results
as sums of the experts' contributions.
-/
module

public import proofs.«01_k».proof.Proof.KernelIdeal.Data
public import proofs.«01_k».proof.Proof.Value.Scalar

@[expose] public section

set_option maxRecDepth 16384

noncomputable section

namespace Cert.KernelIdeal.Block

open Cert.KernelIdeal Cert.KernelIdeal.Gen Cert.KernelIdeal.Exchange Cert.Moe
open Idealize.ShloMosaic Idealize.ShloMosaic.TcCoe

/-! ## Words and constants -/

theorem bits_bot : Ideal.ofBits .f32 0xFF800000#32 = ⊥ := by simp [Ideal.ofBits, Ideal.ieee]

theorem eq_word (i : BitVec 32) (e : Fin 8) : IntOp.cmpi .eq (BitVec.ofNat 32 e.val) i = BitVec.ofBool (decide (Hit i e)) := by
  unfold IntOp.cmpi Hit
  congr 1

theorem select_hit {i : BitVec 32} {e : Fin 8} {α : Type} (a b : α) :
    Scalar.select (BitVec.ofBool (decide (Hit i e))) a b = if Hit i e then a else b := by
  unfold Scalar.select
  by_cases h : Hit i e
  · rw [if_pos h, decide_eq_true h]; rfl
  · rw [if_neg h, decide_eq_false h]; rfl

/-! ## The block's weights -/

theorem pay3_apply (x : FVec Ideal S512x256 .f32) (R : FVec Ideal S256x8 .f32) (n : Fin 512) (e : Fin 8) :
    k0_pay3 (F := Ideal) x R (ix2 n e) = prob (score (fun k => x (ix2 n k)) (fun k e => R (ix2 k e))) e := by
  pointwise [k0_pay3, k0_pay2]
  rw [bits_bot]
  rfl

theorem pay4_apply (i : Vec Ideal S512x1 .i32) (n : Fin 512) (e : Fin 8) :
    k0_pay4 (F := Ideal) i (ix2 n e) = BitVec.ofBool (decide (Hit (i (ix2 n 0)) e)) := by
  pointwise [k0_pay4]
  exact eq_word _ _

theorem pay5_apply (i : Vec Ideal S512x1 .i32) (n : Fin 512) (e : Fin 8) :
    k0_pay5 (F := Ideal) i (ix2 n e) = BitVec.ofBool (decide (Hit (i (ix2 n 0)) e)) := by
  pointwise [k0_pay5]
  exact eq_word _ _

theorem pay8_apply (x : FVec Ideal S512x256 .f32) (R : FVec Ideal S256x8 .f32) (i j : Vec Ideal S512x1 .i32) (n : Fin 512) (e : Fin 8) :
    k0_pay8 (F := Ideal) (k0_pay4 (F := Ideal) i) (k0_pay5 (F := Ideal) j) (k0_pay6 x R i) (k0_pay7 x R j) (ix2 n e)
      = weight (prob (score (fun k => x (ix2 n k)) (fun k e => R (ix2 k e)))) (i (ix2 n 0)) (j (ix2 n 0)) e := by
  pointwise [k0_pay8, k0_pay6, k0_pay7]
  simp only [pay3_apply, pay4_apply, pay5_apply, select_hit, sum_hit]
  rfl

/-! ## One step: the rows weighted by expert `E`'s weight, times its matrix -/

theorem up3_apply (X : S256x512.Idx → Elt Ideal .bf16) (k : Fin 256) (j : Fin 512) : up3 X (ix3 0 k j) = X (ix2 k j) := by
  have h : shapeCast S256x512 (up3 X) shapeCasts_S1x256x512_S256x512 (ix2 k j) = X (ix2 k j) :=
    congrArg X (Equiv.symm_apply_apply _ _)
  rw [← h]
  pointwise

theorem up4_apply (X : S256x512.Idx → Elt Ideal .bf16) (k : Fin 256) (j : Fin 512) : up4 X (ix4 0 0 k j) = X (ix2 k j) := by
  have h : shapeCast S256x512 (up4 X) shapeCasts_S1x1x256x512_S256x512 (ix2 k j) = X (ix2 k j) :=
    congrArg X (Equiv.symm_apply_apply _ _)
  rw [← h]
  pointwise

variable (m : (ℓ : Loc nD τ sig) → Buf (Elt Ideal) ℓ) (ρ : Dev nD → PrngReg)

/-- Expert number `E`'s contribution to an entry of a device's block, through matrix `h` of device `d`. -/
def term (c : Dev nD) (E : BitVec 32) (d : Dev nD) (h : Fin 2) (n j : Fin 512) : EReal :=
  part (pick E 0 fun e => wts m ρ c (ix2 n e)) (fun k => xstg m ρ c (ix2 n k)) (fun k => wOf m ρ d h (ix2 k j))

theorem out1_apply (c : Dev nD) (n j : Fin 512) :
    out1 m ρ c (ix2 n j) = term m ρ c (Scalar.muli (w2 c) 2#32) c 0 n j := by
  unfold out1 k0_pay9
  pointwise [exps, tok, k0_pay2]
  simp only [eq_word, select_hit, sum_hit]
  exact Finset.sum_congr rfl fun k _ => Ideal.mul_congr rfl (up3_apply _ k j)

theorem out2_apply (c : Dev nD) (n j : Fin 512) :
    out2 m ρ c (ix2 n j) = out1 m ρ c (ix2 n j) + term m ρ c (Scalar.addi (Scalar.muli (w2 c) 2#32) 1#32) c 1 n j := by
  unfold out2 k0_pay13 k0_pay12 k0_pay11 k0_pay10
  pointwise [exps, tok, k0_pay2]
  simp only [eq_word, select_hit, sum_hit]
  generalize out1 m ρ c (ix2 n j) = a
  exact Ideal.add_congr rfl (Finset.sum_congr rfl fun k _ => Ideal.mul_congr rfl (up3_apply _ k j))

theorem out3_apply (c : Dev nD) (n j : Fin 512) :
    out3 m ρ c (ix2 n j) = out2 m ρ c (ix2 n j) + term m ρ c (Scalar.muli (w5 c) 2#32) (prv c) 0 n j := by
  unfold out3 k0_pay17 k0_pay16 k0_pay15 k0_pay14
  pointwise [exps, tok, k0_pay2]
  simp only [eq_word, select_hit, sum_hit]
  generalize out2 m ρ c (ix2 n j) = a
  exact Ideal.add_congr rfl (Finset.sum_congr rfl fun k _ => Ideal.mul_congr rfl (up4_apply _ k j))

theorem out4_apply (c : Dev nD) (n j : Fin 512) :
    out4 m ρ c (ix2 n j) = out3 m ρ c (ix2 n j) + term m ρ c (Scalar.addi (Scalar.muli (w7 c) 2#32) 1#32) (nxt c) 1 n j := by
  unfold out4 k0_pay18
  pointwise [exps, tok, k0_pay2]
  simp only [eq_word, select_hit, sum_hit]
  generalize out3 m ρ c (ix2 n j) = a
  exact Ideal.add_congr rfl (Finset.sum_congr rfl fun k _ => Ideal.mul_congr rfl (up4_apply _ k j))

theorem pay19_apply (E : BitVec 32) (x : FVec Ideal S512x256 .f32) (w : FVec Ideal S512x8 .f32) (Z : FVec Ideal S512x512 .f32)
    (X : S256x512.Idx → Elt Ideal .bf16) (n j : Fin 512) :
    k0_pay19 E x exps w Z (up4 X) (ix2 n j) = Z (ix2 n j)
      + part (pick (Scalar.addi (Scalar.muli E 2#32) 1#32) 0 fun e => w (ix2 n e)) (fun k => x (ix2 n k)) (fun k => X (ix2 k j)) := by
  unfold k0_pay19
  pointwise [exps]
  simp only [eq_word, select_hit, sum_hit]
  generalize Z (ix2 n j) = a
  exact Ideal.add_congr rfl (Finset.sum_congr rfl fun k _ => Ideal.mul_congr rfl (up4_apply _ k j))

theorem out5_apply (c : Dev nD) (n j : Fin 512) :
    out5 m ρ c (ix2 n j) = out4 m ρ c (ix2 n j) + term m ρ c (Scalar.addi (Scalar.muli (w5 c) 2#32) 1#32) (prv c) 1 n j := by
  unfold out5
  rw [pay19_apply]
  unfold tok k0_pay2
  pointwise
  rfl

theorem out6_apply (c : Dev nD) (n j : Fin 512) :
    out6 m ρ c (ix2 n j) = out5 m ρ c (ix2 n j) + term m ρ c (Scalar.muli (w7 c) 2#32) (nxt c) 0 n j := by
  unfold out6 k0_pay21 k0_pay20
  pointwise [exps, tok, k0_pay2]
  simp only [eq_word, select_hit, sum_hit]
  generalize out5 m ρ c (ix2 n j) = a
  exact Ideal.add_congr rfl (Finset.sum_congr rfl fun k _ => Ideal.mul_congr rfl (up4_apply _ k j))

theorem out7_apply (c : Dev nD) (n j : Fin 512) :
    out7 m ρ c (ix2 n j) = out6 m ρ c (ix2 n j) + term m ρ c (Scalar.muli (w9 c) 2#32) (prv (prv c)) 0 n j := by
  unfold out7 k0_pay25 k0_pay24 k0_pay23 k0_pay22
  pointwise [exps, tok, k0_pay2]
  simp only [eq_word, select_hit, sum_hit]
  generalize out6 m ρ c (ix2 n j) = a
  exact Ideal.add_congr rfl (Finset.sum_congr rfl fun k _ => Ideal.mul_congr rfl (up4_apply _ k j))

theorem out8_apply (c : Dev nD) (n j : Fin 512) :
    out8 m ρ c (ix2 n j) = out7 m ρ c (ix2 n j) + term m ρ c (Scalar.addi (Scalar.muli (w9 c) 2#32) 1#32) (nxt (nxt c)) 1 n j := by
  unfold out8 k0_pay29 k0_pay28 k0_pay27 k0_pay26
  pointwise [exps, tok, k0_pay2]
  simp only [eq_word, select_hit, sum_hit]
  generalize out7 m ρ c (ix2 n j) = a
  exact Ideal.add_congr rfl (Finset.sum_congr rfl fun k _ => Ideal.mul_congr rfl (up4_apply _ k j))

/-! ## The block's arguments -/

theorem col0_apply (c : Dev nD) (n : Fin 512) : col0 m ρ c (ix2 n 0) = ixstg m ρ c (ix2 n 0) := by
  refine congrArg (ixstg m ρ c) ?_
  funext a
  match a with
  | ⟨0, _⟩ => exact Fin.ext (show 0 + 1 * n.val = n.val by omega)
  | ⟨1, _⟩ => rfl

theorem col1_apply (c : Dev nD) (n : Fin 512) : col1 m ρ c (ix2 n 0) = ixstg m ρ c (ix2 n 1) := by
  refine congrArg (ixstg m ρ c) ?_
  funext a
  match a with
  | ⟨0, _⟩ => exact Fin.ext (show 0 + 1 * n.val = n.val by omega)
  | ⟨1, _⟩ => rfl

theorem wOf_apply (d : Dev nD) (h : Fin 2) (k : Fin 256) (j : Fin 512) :
    wOf m ρ d h (ix2 k j) = ewstg m ρ d (ix3 h k j) := by
  have hw : ∀ i, wAll m ρ d i = ewstg m ρ d i := fun i => by
    unfold wAll k0_pay1
    pointwise
  have hr : wOf m ρ d h = shapeCast S256x512 (s := S1x256x512) (fun y => wAll m ρ d ((ownR h).idx y)) shapeCasts_S1x256x512_S256x512 := rfl
  rw [hr]
  have hc : ∀ V : S1x256x512.Idx → EReal, shapeCast S256x512 V shapeCasts_S1x256x512_S256x512 (ix2 k j) = V (ix3 0 k j) := fun V => by
    pointwise
  refine (hc _).trans ((hw _).trans (congrArg (ewstg m ρ d) ?_))
  funext a
  match a with
  | ⟨0, _⟩ => exact Fin.ext (show h.val + 1 * 0 = h.val by omega)
  | ⟨1, _⟩ => exact Fin.ext (show 0 + 1 * k.val = k.val by omega)
  | ⟨2, _⟩ => exact Fin.ext (show 0 + 1 * j.val = j.val by omega)

theorem wts_apply (c : Dev nD) (n : Fin 512) (e : Fin 8) :
    wts m ρ c (ix2 n e)
      = weight (prob (score (fun k => xstg m ρ c (ix2 n k)) (fun k e => rwstg m ρ c (ix2 k e))))
          (ixstg m ρ c (ix2 n 0)) (ixstg m ρ c (ix2 n 1)) e := by
  unfold wts hot0 hot1 gate0 gate1
  rw [pay8_apply]
  rw [col0_apply, col1_apply]

/-! ## The block as a sum over the experts -/

/-- Expert number of matrix `h` of device `d`; -/
def expertOf (d : Dev nD) (h : Fin 2) : Fin 8 := ⟨2 * d.val + h.val, by have hd : d.val < 4 := d.isLt; have := h.isLt; omega⟩
/-- the device that holds an expert, -/
def holder (e : Fin 8) : Dev nD := ⟨e.val / 2, show e.val / 2 < 4 by have := e.isLt; omega⟩
/-- and which of its two matrices it is. -/
def half (e : Fin 8) : Fin 2 := ⟨e.val % 2, by omega⟩

theorem words (c : Dev nD) : Scalar.muli (w2 c) 2#32 = BitVec.ofNat 32 (expertOf c 0).val
    ∧ Scalar.addi (Scalar.muli (w2 c) 2#32) 1#32 = BitVec.ofNat 32 (expertOf c 1).val
    ∧ Scalar.muli (w5 c) 2#32 = BitVec.ofNat 32 (expertOf (prv c) 0).val
    ∧ Scalar.addi (Scalar.muli (w5 c) 2#32) 1#32 = BitVec.ofNat 32 (expertOf (prv c) 1).val
    ∧ Scalar.muli (w7 c) 2#32 = BitVec.ofNat 32 (expertOf (nxt c) 0).val
    ∧ Scalar.addi (Scalar.muli (w7 c) 2#32) 1#32 = BitVec.ofNat 32 (expertOf (nxt c) 1).val
    ∧ Scalar.muli (w9 c) 2#32 = BitVec.ofNat 32 (expertOf (prv (prv c)) 0).val
    ∧ Scalar.addi (Scalar.muli (w9 c) 2#32) 1#32 = BitVec.ofNat 32 (expertOf (nxt (nxt c)) 1).val := by
  revert c; decide

theorem holder_expertOf : ∀ (d : Dev nD) (h : Fin 2), holder (expertOf d h) = d ∧ half (expertOf d h) = h := by decide

/-- The eight experts in the order device `c` adds them. -/
theorem sum_order (c : Dev nD) (f : Fin 8 → EReal) :
    f (expertOf c 0) + f (expertOf c 1) + f (expertOf (prv c) 0) + f (expertOf (nxt c) 1) + f (expertOf (prv c) 1)
      + f (expertOf (nxt c) 0) + f (expertOf (prv (prv c)) 0) + f (expertOf (nxt (nxt c)) 1) = ∑ e, f e := by
  have hp : ([expertOf c 0, expertOf c 1, expertOf (prv c) 0, expertOf (nxt c) 1, expertOf (prv c) 1, expertOf (nxt c) 0,
      expertOf (prv (prv c)) 0, expertOf (nxt (nxt c)) 1] : List (Fin 8)).Perm (List.finRange 8) := by revert c; decide
  have h := (hp.map f).sum_eq
  rw [← Fin.sum_univ_def] at h
  rw [← h]
  simp only [List.map_cons, List.map_nil, List.sum_cons, List.sum_nil, add_zero, add_assoc]

theorem pick_expert (e : Fin 8) (f : Fin 8 → EReal) : pick (BitVec.ofNat 32 e.val) 0 f = f e := by
  have h : (BitVec.ofNat 32 e.val).toNat = e.val := (hit_iff _ e).1 rfl
  unfold pick
  rw [dif_pos (by rw [h]; exact e.isLt)]
  exact congrArg f (Fin.ext h)

/-- An expert's contribution to an entry of the block. -/
def given (c : Dev nD) (n j : Fin 512) (e : Fin 8) : EReal :=
  part (wts m ρ c (ix2 n e)) (fun k => xstg m ρ c (ix2 n k)) (fun k => wOf m ρ (holder e) (half e) (ix2 k j))

theorem term_eq (c d : Dev nD) (h : Fin 2) (n j : Fin 512) {E : BitVec 32} (hE : E = BitVec.ofNat 32 (expertOf d h).val) :
    term m ρ c E d h n j = given m ρ c n j (expertOf d h) := by
  unfold term given
  rw [hE, pick_expert, (holder_expertOf d h).1, (holder_expertOf d h).2]

/-- The block's entry is the sum of the experts' contributions, each through its own matrix. -/
theorem out8_sum (c : Dev nD) (n j : Fin 512) : out8 m ρ c (ix2 n j) = ∑ e, given m ρ c n j e := by
  obtain ⟨h1, h2, h3, h4, h5, h6, h7, h8⟩ := words c
  rw [← sum_order c, ← term_eq m ρ c _ _ n j h1, ← term_eq m ρ c _ _ n j h2, ← term_eq m ρ c _ _ n j h3,
    ← term_eq m ρ c _ _ n j h4, ← term_eq m ρ c _ _ n j h5, ← term_eq m ρ c _ _ n j h6, ← term_eq m ρ c _ _ n j h7,
    ← term_eq m ρ c _ _ n j h8, out8_apply, out7_apply, out6_apply, out5_apply, out4_apply, out3_apply, out2_apply, out1_apply]

/-- The same in the staged arguments: a token's row, its scores' probabilities, its two words, the experts' matrices. -/
theorem block_apply (c : Dev nD) (n j : Fin 512) : out8 m ρ c (ix2 n j) = ∑ e,
    part (weight (prob (score (fun k => xstg m ρ c (ix2 n k)) (fun k e => rwstg m ρ c (ix2 k e))))
        (ixstg m ρ c (ix2 n 0)) (ixstg m ρ c (ix2 n 1)) e)
      (fun k => xstg m ρ c (ix2 n k)) (fun k => ewstg m ρ (holder e) (ix3 (half e) k j)) := by
  rw [out8_sum]
  unfold given
  simp only [wts_apply, wOf_apply]

end Cert.KernelIdeal.Block

end
-- ==== Proof.Value.Host.lean ====
/-
The reference's result, entry by entry, on the extended reals.
-/
module

public import proofs.«01_k».proof.Proof.Gen.ReferenceIdeal.Run
public import proofs.«01_k».proof.Proof.Value.Scalar

@[expose] public section

set_option maxRecDepth 16384

noncomputable section

namespace Cert.ReferenceIdeal.Entry

open Cert.ReferenceIdeal Cert.ReferenceIdeal.Gen Cert.Moe
open Idealize.ShloMosaic Idealize.ShloMosaic.TcCoe

/-! ## The two look-ups at an index -/

theorem gather_pair {α : Type} (x : S2048x8.Idx → α) (i : IVec S2048x2x1 32) (n : Fin 2048) (t : Fin 2) :
    Host.gather gather_S2048x8_S2048x2x1_S2048x2_n_1_0_0_1_2_11 x i (ix2 n t)
      = x (ix2 n ⟨min (i (ix3 n t 0)).toInt.toNat 7, by omega⟩) := by
  unfold Host.gather
  refine congrArg x (funext fun a => Fin.ext ?_)
  match a with
  | ⟨0, _⟩ => exact (show 0 + n.val + 0 = n.val by omega)
  | ⟨1, _⟩ =>
    have hi : GatherDims.siIdx gather_S2048x8_S2048x2x1_S2048x2_n_1_0_0_1_2_11 (ix2 n t) ⟨0, by decide⟩ = ix3 n t 0 := by
      funext b
      match b with
      | ⟨0, _⟩ => rfl
      | ⟨1, _⟩ => rfl
      | ⟨2, _⟩ => rfl
    show min (i (GatherDims.siIdx gather_S2048x8_S2048x2x1_S2048x2_n_1_0_0_1_2_11 (ix2 n t) ⟨0, by decide⟩)).toInt.toNat 7 + 0 + 0 = _
    rw [hi]; rfl

theorem gather_matrix {α : Type} (x : S8x256x512.Idx → α) (i : IVec S2048x1 32) (n : Fin 2048) (k : Fin 256) (j : Fin 512) :
    Host.gather gather_S8x256x512_S2048x1_S2048x256x512_12_0_n_n_0_1_1256512 x i (ix3 n k j)
      = x (ix3 ⟨min (i (ix2 n 0)).toInt.toNat 7, by omega⟩ k j) := by
  unfold Host.gather
  refine congrArg x (funext fun a => Fin.ext ?_)
  match a with
  | ⟨0, _⟩ =>
    have hi : GatherDims.siIdx gather_S8x256x512_S2048x1_S2048x256x512_12_0_n_n_0_1_1256512 (ix3 n k j) ⟨0, by decide⟩ = ix2 n 0 := by
      funext b
      match b with
      | ⟨0, _⟩ => rfl
      | ⟨1, _⟩ => rfl
    show min (i (GatherDims.siIdx gather_S8x256x512_S2048x1_S2048x256x512_12_0_n_n_0_1_1256512 (ix3 n k j) ⟨0, by decide⟩)).toInt.toNat 7 + 0 + 0 = _
    rw [hi]; rfl
  | ⟨1, _⟩ => exact (show 0 + 0 + k.val = k.val by omega)
  | ⟨2, _⟩ => exact (show 0 + 0 + j.val = j.val by omega)

/-! ## The stages -/

/-- The probabilities, -/
def probs (x : FVec Ideal S2048x256 .f32) (R : FVec Ideal S256x8 .f32) : FVec Ideal S2048x8 .f32 :=
  Host.divf (Host.exp (subf (Host.dotGeneral dot_S2048x256_S256x8_S2048x8_1_0_0_1_n_n none x R) (broadcastInDim S2048x8 ![0, 1] bcast_S2048x1_S2048x8_0_1 (broadcastInDim S2048x1 ![0] bcast_S2048_S2048x1_0 (Host.reduce FloatOps.maximumf (Host.dotGeneral dot_S2048x256_S256x8_S2048x8_1_0_0_1_n_n none x R) (constant S_ .f32 0xFF800000#32) reducesTo_S2048x8_S2048_d1 h_S_))))) (broadcastInDim S2048x8 ![0, 1] bcast_S2048x1_S2048x8_0_1 (broadcastInDim S2048x1 ![0] bcast_S2048_S2048x1_0 (Host.reduceAdd (Host.exp (subf (Host.dotGeneral dot_S2048x256_S256x8_S2048x8_1_0_0_1_n_n none x R) (broadcastInDim S2048x8 ![0, 1] bcast_S2048x1_S2048x8_0_1 (broadcastInDim S2048x1 ![0] bcast_S2048_S2048x1_0 (Host.reduce FloatOps.maximumf (Host.dotGeneral dot_S2048x256_S256x8_S2048x8_1_0_0_1_n_n none x R) (constant S_ .f32 0xFF800000#32) reducesTo_S2048x8_S2048_d1 h_S_))))) (constant S_ .f32 0x00000000#32) reducesTo_S2048x8_S2048_d1 h_S_)))

/-- the two the words pick, zero where a word is no expert's number, -/
def picked (p : FVec Ideal S2048x8 .f32) (i : IVec S2048x2 32) : FVec Ideal S2048x2 .f32 :=
  select (Host.reduce IntOp.andi (andi (cmpi .sge (broadcastInDim S2048x2x1 ![0, 1] bcast_S2048x2_S2048x2x1_0_1 i) (broadcastInDim S2048x2x1 ![] bcast_S_S2048x2x1 (constantI S_ 32 0#32))) (cmpi .sle (broadcastInDim S2048x2x1 ![0, 1] bcast_S2048x2_S2048x2x1_0_1 i) (broadcastInDim S2048x2x1 ![0, 1, 2] bcast_S1x1x1_S2048x2x1_0_1_2 (broadcastInDim S1x1x1 ![2] bcast_S1_S1x1x1_2 (constantI S1 32 7#32))))) (constantI S_ 1 1#1) reducesTo_S2048x2x1_S2048x2_d2 h_S_) (Host.gather gather_S2048x8_S2048x2x1_S2048x2_n_1_0_0_1_2_11 p (broadcastInDim S2048x2x1 ![0, 1] bcast_S2048x2_S2048x2x1_0_1 i)) (broadcastInDim S2048x2 ![] bcast_S_S2048x2 (constant S_ .f32 0x00000000#32))

/-- a word's matrix for every token, zero likewise, -/
def matrices (W : FVec Ideal S8x256x512 .f32) (i : IVec S2048 32) : FVec Ideal S2048x256x512 .f32 :=
  select (broadcastInDim S2048x256x512 ![0] bcast_S2048_S2048x256x512_0 (Host.reduce IntOp.andi (andi (cmpi .sge (broadcastInDim S2048x1 ![0] bcast_S2048_S2048x1_0 i) (broadcastInDim S2048x1 ![] bcast_S_S2048x1 (constantI S_ 32 0#32))) (cmpi .sle (broadcastInDim S2048x1 ![0] bcast_S2048_S2048x1_0 i) (broadcastInDim S2048x1 ![0, 1] bcast_S1x1_S2048x1_0_1 (broadcastInDim S1x1 ![1] bcast_S1_S1x1_1 (constantI S1 32 7#32))))) (constantI S_ 1 1#1) reducesTo_S2048x1_S2048_d1 h_S_)) (Host.gather gather_S8x256x512_S2048x1_S2048x256x512_12_0_n_n_0_1_1256512 W (broadcastInDim S2048x1 ![0] bcast_S2048_S2048x1_0 i)) (broadcastInDim S2048x256x512 ![] bcast_S_S2048x256x512 (constant S_ .f32 0x00000000#32))

/-- a column of the pairs, -/
def left {α : Type} (v : S2048x2.Idx → α) : S2048.Idx → α := shapeCast S2048 (extractStridedSlice S2048x1 ![0, 0] v slices_S2048x2_S2048x1_0_0) shapeCasts_S2048x1_S2048
def right {α : Type} (v : S2048x2.Idx → α) : S2048.Idx → α := shapeCast S2048 (extractStridedSlice S2048x1 ![0, 1] v slices_S2048x2_S2048x1_0_1) shapeCasts_S2048x1_S2048

/-- a column's share of the pairs' sums times the products with its word's matrices, -/
def half (x : FVec Ideal S2048x256 .f32) (a b : FVec Ideal S2048 .f32) (M : FVec Ideal S2048x256x512 .f32) : FVec Ideal S2048x512 .f32 :=
  mulf (broadcastInDim S2048x512 ![0, 1] bcast_S2048x1_S2048x512_0_1 (broadcastInDim S2048x1 ![0] bcast_S2048_S2048x1_0 (Host.divf a b))) (Host.dotGeneral dot_S2048x256_S2048x256x512_S2048x512_1_1_n_2_0_0 none x M)

/-- and the result. -/
def result (x : FVec Ideal S2048x256 .f32) (R : FVec Ideal S256x8 .f32) (i : IVec S2048x2 32) (W : FVec Ideal S8x256x512 .f32) : FVec Ideal S2048x512 .f32 :=
  addf (half x (left (picked (probs x R) i)) (addf (left (picked (probs x R) i)) (right (picked (probs x R) i))) (matrices W (left i)))
    (half x (right (picked (probs x R) i)) (addf (left (picked (probs x R) i)) (right (picked (probs x R) i))) (matrices W (right i)))

theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

/-! ## The stages at an index -/

/-- The bound test on a word, read signed: it is an expert's number. -/
theorem bound_test (i : BitVec 32) : IntOp.andi (IntOp.cmpi .sge i 0#32) (IntOp.cmpi .sle i 7#32) = BitVec.ofBool (decide (i.toNat < 8)) := by
  have hi := i.isLt
  have h1 : IntOp.cmpi .sge i 0#32 = BitVec.ofBool (decide (0 ≤ i.toInt)) := rfl
  have h2 : IntOp.cmpi .sle i 7#32 = BitVec.ofBool (decide (i.toInt ≤ 7)) := rfl
  rw [h1, h2, show ∀ a b : Bool, IntOp.andi (BitVec.ofBool a) (BitVec.ofBool b) = BitVec.ofBool (a && b) by decide, ← Bool.decide_and]
  congr 1
  refine decide_eq_decide.2 ?_
  rw [BitVec.toInt_eq_toNat_cond]
  split <;> omega

/-- A clamped look-up under the bound test is the picked value. -/
theorem fill {α : Type} (i i' : BitVec 32) (h : i' = i) (z : α) (f : Fin 8 → α) :
    Scalar.select (Finset.fold IntOp.andi (1#1) (fun _ : Fin 1 => IntOp.andi (IntOp.cmpi .sge i 0#32) (IntOp.cmpi .sle i 7#32)) Finset.univ)
      (f ⟨min i'.toInt.toNat 7, by omega⟩) z = pick i z f := by
  subst h
  have hi := i'.isLt
  rw [Finset.univ_unique, Finset.fold_singleton, bound_test]
  unfold pick Scalar.select
  by_cases h : i'.toNat < 8
  · rw [dif_pos h, decide_eq_true h, if_pos (by decide)]
    refine congrArg f (Fin.ext ?_)
    show min i'.toInt.toNat 7 = i'.toNat
    rw [BitVec.toInt_eq_toNat_cond]
    split <;> omega
  · rw [dif_neg h, decide_eq_false h, if_neg (by decide)]

theorem left_apply {α : Type} (v : S2048x2.Idx → α) (n : Fin 2048) : left v (ix1 n) = v (ix2 n 0) := by
  pointwise [left]
theorem right_apply {α : Type} (v : S2048x2.Idx → α) (n : Fin 2048) : right v (ix1 n) = v (ix2 n 1) := by
  pointwise [right]

theorem bits_bot : Ideal.ofBits .f32 0xFF800000#32 = ⊥ := by simp [Ideal.ofBits, Ideal.ieee]

theorem probs_apply (x : FVec Ideal S2048x256 .f32) (R : FVec Ideal S256x8 .f32) (n : Fin 2048) (e : Fin 8) :
    probs x R (ix2 n e) = prob (score (fun k => x (ix2 n k)) (fun k e => R (ix2 k e))) e := by
  pointwise [probs]
  rw [bits_bot]
  rfl

theorem picked_apply (p : FVec Ideal S2048x8 .f32) (i : IVec S2048x2 32) (n : Fin 2048) (t : Fin 2) :
    picked p i (ix2 n t) = pick (i (ix2 n t)) 0 fun e => p (ix2 n e) := by
  pointwise [picked]
  rw [gather_pair]
  exact fill _ _ (by pointwise) _ fun e => p (ix2 n e)

theorem matrices_apply (W : FVec Ideal S8x256x512 .f32) (i : IVec S2048 32) (n : Fin 2048) (k : Fin 256) (j : Fin 512) :
    matrices W i (ix3 n k j) = pick (i (ix1 n)) 0 fun e => W (ix3 e k j) := by
  pointwise [matrices]
  rw [gather_matrix]
  exact fill _ _ (by pointwise) _ fun e => W (ix3 e k j)

theorem result_apply (x : FVec Ideal S2048x256 .f32) (R : FVec Ideal S256x8 .f32) (i : IVec S2048x2 32) (W : FVec Ideal S8x256x512 .f32)
    (n : Fin 2048) (j : Fin 512) :
    result x R i W (ix2 n j)
      = mixed (prob (score (fun k => x (ix2 n k)) (fun k e => R (ix2 k e)))) (i (ix2 n 0)) (i (ix2 n 1))
          (fun k => x (ix2 n k)) (fun e k => W (ix3 e k j)) := by
  pointwise [result, half]
  simp only [left_apply, right_apply, picked_apply, matrices_apply, probs_apply]
  rfl

end Cert.ReferenceIdeal.Entry

end
-- ==== Proof.Value.Finite.lean ====
/-
The precondition read: every entry of a device's tokens and of the router's weights is a real number.
-/
module

public import proofs.«01_k».proof.Defs
public import proofs.«01_k».proof.Proof.Value.Scalar
public import Idealize.ShloMosaic.Lib.ReduceAll

@[expose] public section

noncomputable section

open Idealize.ShloMosaic Idealize.ShloMosaic.TcCoe

namespace Cert.Pre_finite_scores_KernelIdeal.Read

open Cert.Pre_finite_scores_KernelIdeal

/-- The shapes of the precondition's operations fit, on a device's blocks -/
theorem facts : Facts where
  bcast_S_S512x256 := by decide
  reducesTo_S512x256_S_d0_1 := by decide
  h_S_ := by decide
  bcast_S_S256x8 := by decide
  reducesTo_S256x8_S_d0_1 := by decide

/-- An entry whose absolute value is below the largest is a real number. -/
theorem real_of_below (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

attribute [local instance] facts

/-- A device whose blocks meet the precondition holds real tokens and real router weights. -/
theorem finite (x : FVec Ideal S512x256 .f32) (R : FVec Ideal S256x8 .f32) (i : IVec S512x2 32) (W : FVec Ideal S2x256x512 .f32)
    (h : fn (F := Ideal) x R i W = fun _ => 1#1) : (∀ n k, ∃ r : ℝ, x (ix2 n k) = r) ∧ ∀ k e, ∃ r : ℝ, R (ix2 k e) = r := by
  haveI : Subsingleton S_.Idx := ⟨fun a b => funext fun t => t.elim0⟩
  have h0 := congrFun h ix0
  obtain ⟨hx, hR⟩ := IntOp.andi_eq_one.1 h0
  refine ⟨fun n k => ?_, fun k e => ?_⟩
  · exact real_of_below _ (Host.reduce_andi_all _ _ _ _ _ hx (ix2 n k))
  · exact real_of_below _ (Host.reduce_andi_all _ _ _ _ _ hR (ix2 k e))

end Cert.Pre_finite_scores_KernelIdeal.Read

namespace Cert.Pre_finite_scores_ReferenceIdeal.Read

open Cert.Pre_finite_scores_ReferenceIdeal

/-- and on the whole arrays. -/
theorem facts : Facts where
  bcast_S_S2048x256 := by decide
  reducesTo_S2048x256_S_d0_1 := by decide
  h_S_ := by decide
  bcast_S_S256x8 := by decide
  reducesTo_S256x8_S_d0_1 := by decide

end Cert.Pre_finite_scores_ReferenceIdeal.Read

end
-- ==== Proof.Value.Equation.lean ====
/-
The claim on values: with finite tokens and router weights, every device ends with its block of the reference's result.
-/
module

public import proofs.«01_k».proof.Defs
public import proofs.«01_k».proof.Proof.KernelIdeal.Launch
public import proofs.«01_k».proof.Proof.Value.Block
public import proofs.«01_k».proof.Proof.Value.Host
public import proofs.«01_k».proof.Proof.Value.Finite

@[expose] public section

noncomputable section

namespace Cert.Proof

open Idealize.ShloMosaic Idealize.ShloMosaic.TcCoe Idealize.SL.Sem
open Cert.Moe Cert.KernelIdeal.Exchange Cert.KernelIdeal.Block

/-- The row of the whole array that row `n` of device `c`'s block is. -/
def row (c : Fin 4) (n : Fin 512) : Fin 2048 := ⟨c.val * 512 + n.val, by omega⟩

/-- A block of rows read at an index. -/
theorem rows_apply {α : Type} {d : Nat} (v : Shape.Idx ⟨2, ![2048, d]⟩ → α) (h : Layout.Tiles ⟨2, ![512, d]⟩ ⟨2, ![2048, d]⟩ 0 4)
    (c : Fin 4) (n : Fin 512) (k : Fin d) :
    Layout.block ⟨2, ![512, d]⟩ ⟨2, ![2048, d]⟩ 0 4 c v h (ix2 n k) = v (ix2 (row c n) k) := by
  refine congrArg v (funext fun b => Fin.ext ?_)
  rw [Layout.Tiles.idx_val]
  match b with
  | 0 => rfl
  | 1 => rfl

/-- An expert's weights read in its holder's block. -/
theorem experts_apply {α : Type} (v : Shape.Idx ⟨3, ![8, 256, 512]⟩ → α)
    (h : Layout.Tiles ⟨3, ![2, 256, 512]⟩ ⟨3, ![8, 256, 512]⟩ 0 4) (e : Fin 8) (k : Fin 256) (j : Fin 512) :
    Layout.block ⟨3, ![2, 256, 512]⟩ ⟨3, ![8, 256, 512]⟩ 0 4 (holder e) v h (ix3 (half e) k j) = v (ix3 e k j) := by
  refine congrArg v (funext fun b => Fin.ext ?_)
  rw [Layout.Tiles.idx_val]
  match b with
  | 0 => exact Nat.div_add_mod' e.val 2
  | 1 => rfl
  | 2 => rfl

variable {m : (ℓ : Loc Cert.KernelIdeal.nD Cert.KernelIdeal.τ Cert.KernelIdeal.sig) → Buf (Elt Ideal) ℓ}
  {g : Dev Cert.KernelIdeal.nD → PrngReg}

/-- What a device ends with is its rows of the reference's result. -/
theorem out_rows (x : FVec Ideal Cert.ReferenceIdeal.S2048x256 .f32) (R : FVec Ideal Cert.ReferenceIdeal.S256x8 .f32)
    (i : IVec Cert.ReferenceIdeal.S2048x2 32) (W : FVec Ideal Cert.ReferenceIdeal.S8x256x512 .f32)
    (hx : ∀ c : Dev Cert.KernelIdeal.nD, xstg m g c = Layout.block ⟨2, ![512, 256]⟩ ⟨2, ![2048, 256]⟩ 0 4 c x)
    (hR : ∀ c : Dev Cert.KernelIdeal.nD, rwstg m g c = R)
    (hi : ∀ c : Dev Cert.KernelIdeal.nD, ixstg m g c = Layout.block ⟨2, ![512, 2]⟩ ⟨2, ![2048, 2]⟩ 0 4 c i)
    (hW : ∀ c : Dev Cert.KernelIdeal.nD, ewstg m g c = Layout.block ⟨3, ![2, 256, 512]⟩ ⟨3, ![8, 256, 512]⟩ 0 4 c W)
    (c : Dev Cert.KernelIdeal.nD)
    (fx : ∀ (n : Fin 512) (k : Fin 256), ∃ r : ℝ, xstg m g c (ix2 n k) = (r : EReal))
    (fR : ∀ (k : Fin 256) (e : Fin 8), ∃ r : ℝ, rwstg m g c (ix2 k e) = (r : EReal)) :
    out8 m g c = Layout.block ⟨2, ![512, 512]⟩ ⟨2, ![2048, 512]⟩ 0 4 c (Cert.ReferenceIdeal.Entry.result x R i W) := by
  have key : ∀ (n : Fin 512) (j : Fin 512), out8 m g c (ix2 n j) = Cert.ReferenceIdeal.Entry.result x R i W (ix2 (row c n) j) := by
    intro n j
    have ex : (fun k : Fin 256 => xstg m g c (ix2 n k)) = fun k => x (ix2 (row c n) k) :=
      funext fun k => (congrFun (hx c) (ix2 n k)).trans (rows_apply x _ c n k)
    have eR : (fun (k : Fin 256) (e : Fin 8) => rwstg m g c (ix2 k e)) = fun k e => R (ix2 k e) :=
      funext fun k => funext fun e => congrFun (hR c) (ix2 k e)
    have ei : ∀ t : Fin 2, ixstg m g c (ix2 n t) = i (ix2 (row c n) t) := fun t =>
      (congrFun (hi c) (ix2 n t)).trans (rows_apply i _ c n t)
    have eW : ∀ e : Fin 8, (fun k : Fin 256 => ewstg m g (holder e) (ix3 (half e) k j)) = fun k => W (ix3 e k j) := fun e =>
      funext fun k => (congrFun (hW (holder e)) (ix3 (half e) k j)).trans (experts_apply W _ e k j)
    have pos := prob_pos fun e => score_real (x := fun k : Fin 256 => xstg m g c (ix2 n k))
      (R := fun (k : Fin 256) (e : Fin 8) => rwstg m g c (ix2 k e)) (fun k => fx n k) (fun k e => fR k e) e
    rw [ex, eR] at pos
    rw [block_apply, Cert.ReferenceIdeal.Entry.result_apply, ← sum_parts pos, ex, eR, ei 0, ei 1]
    exact Finset.sum_congr rfl fun e _ => congrArg _ (eW e)
  funext q
  rw [eq_ix2 q]
  exact (key _ _).trans (rows_apply _ _ c _ _).symm

/-- The kernel and the reference from the same arguments: the kernel ends with the reference's result, a block to a device. -/
theorem values : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Pre_finite_scores_KernelIdeal.Read.facts) := by
  intro m g m' g' hp ha
  refine ⟨Cert.ReferenceIdeal.Value.res_out0 m' 0, ?_, ?_⟩
  · refine (θ_run (Cert.KernelIdeal.defs (F := Ideal)) _ _).mono (fun r h c => ⟨(h.1 c).1.trans ?_, (h.1 c).2⟩)
      (run_out (F := Ideal) m g)
    have hf := Cert.Pre_finite_scores_KernelIdeal.Read.finite (m ((c.tc : Thread Cert.KernelIdeal.nD Cert.KernelIdeal.τ).loc Cert.KernelIdeal.main_arg0)) _ _ _ (hp c)
    refine Eq.trans ?_ (congrArg (fun v => Layout.block ⟨2, ![512, 512]⟩ ⟨2, ![2048, 512]⟩ 0 4 c v) (Cert.ReferenceIdeal.Entry.res_eq m' 0).symm)
    refine out_rows _ _ _ _ (fun c => (xstg_eq m g c).trans (ha c).1) (fun c => (rwstg_eq m g c).trans (ha c).2.1)
      (fun c => (ixstg_eq m g c).trans (ha c).2.2.1) (fun c => (ewstg_eq m g c).trans (ha c).2.2.2) c ?_ ?_
    · intro n k; rw [xstg_eq m g c]; exact hf.1 n k
    · intro k e; rw [rwstg_eq m g c]; exact hf.2 k e
  · exact (θ_run (Cert.ReferenceIdeal.defs (F := Ideal)) _ _).mono (fun r h => h 0) (Cert.ReferenceIdeal.Value.run (F := Ideal) m' g')

end Cert.Proof

end
-- ==== Proof.lean ====
/-
The certificate's claims, assembled: the three runs, that the kernel's two printings are the same program, and that the
kernel's result is the reference's.
-/
module

public import proofs.«01_k».proof.Defs
public import proofs.«01_k».proof.Proof.Runs
public import proofs.«01_k».proof.Proof.Value.Equation

@[expose] public section

noncomputable section

namespace Cert.Proof

theorem claim : Cert.Claim :=
  ⟨Cert.Kernel.Gen.facts, Cert.KernelIdeal.Gen.facts, Cert.ReferenceIdeal.Gen.facts,
    Cert.Pre_finite_scores_KernelIdeal.Read.facts, Cert.Pre_finite_scores_ReferenceIdeal.Read.facts,
    frame_kernel, frame_ideal, fun m g _ => frame_ideal m g trivial,
    frame_reference, fun m g _ => frame_reference m g trivial, trivial, values⟩

end Cert.Proof

end
